-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x2x40x2x128 Cert.KernelIdeal.S2x2x40x1x128
  ∧ IdealRules.bf16_pair.PackStatement Cert.KernelIdeal.S40x128
  ∧ IdealRules.bf16_pair.Statement Cert.KernelIdeal.S1x1x40x2x128 Cert.KernelIdeal.S1x1x40x1x128
  ∧ IdealRules.bf16_pair.Statement Cert.KernelIdeal.S1x1x1x2x128 Cert.KernelIdeal.S1x1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x5120 : Shape := ⟨3, ![8, 1, 5120]⟩
abbrev S19072x2560 : Shape := ⟨2, ![19072, 2560]⟩
abbrev S19072x80 : Shape := ⟨2, ![19072, 80]⟩
abbrev S5960 : Shape := ⟨1, ![5960]⟩
abbrev S_ : Shape := ⟨0, ![]⟩
abbrev S32x128 : Shape := ⟨2, ![32, 128]⟩
abbrev S2x128 : Shape := ⟨2, ![2, 128]⟩
abbrev S64x128 : Shape := ⟨2, ![64, 128]⟩
abbrev S8x20x128x2 : Shape := ⟨4, ![8, 20, 128, 2]⟩
abbrev S8x20x2x128 : Shape := ⟨4, ![8, 20, 2, 128]⟩
abbrev S8x5120 : Shape := ⟨2, ![8, 5120]⟩
abbrev S6000 : Shape := ⟨1, ![6000]⟩
abbrev S75x80 : Shape := ⟨2, ![75, 80]⟩
abbrev S75x128 : Shape := ⟨2, ![75, 128]⟩
abbrev S1x1 : Shape := ⟨2, ![1, 1]⟩
abbrev S8x19072 : Shape := ⟨2, ![8, 19072]⟩
abbrev S1280x2560 : Shape := ⟨2, ![1280, 2560]⟩
abbrev S1280x80 : Shape := ⟨2, ![1280, 80]⟩
abbrev S8x1280 : Shape := ⟨2, ![8, 1280]⟩
abbrev S2x2x40x128 : Shape := ⟨4, ![2, 2, 40, 128]⟩
abbrev S8x128 : Shape := ⟨2, ![8, 128]⟩
abbrev S256x80 : Shape := ⟨2, ![256, 80]⟩
abbrev S64x80 : Shape := ⟨2, ![64, 80]⟩
abbrev S128x80 : Shape := ⟨2, ![128, 80]⟩
abbrev S80x128 : Shape := ⟨2, ![80, 128]⟩
abbrev S40x128 : Shape := ⟨2, ![40, 128]⟩
abbrev S1x128 : Shape := ⟨2, ![1, 128]⟩
abbrev S8x128x1 : Shape := ⟨3, ![8, 128, 1]⟩
abbrev S1x1x40x128 : Shape := ⟨4, ![1, 1, 40, 128]⟩
abbrev S8x256 : Shape := ⟨2, ![8, 256]⟩
abbrev S256x128 : Shape := ⟨2, ![256, 128]⟩
abbrev S128x128 : Shape := ⟨2, ![128, 128]⟩
abbrev S1x1x1x128 : Shape := ⟨4, ![1, 1, 1, 128]⟩
abbrev S16x128 : Shape := ⟨2, ![16, 128]⟩
abbrev S32x128x1 : Shape := ⟨3, ![32, 128, 1]⟩
abbrev S256x256 : Shape := ⟨2, ![256, 256]⟩

abbrev nBuf : Space → Nat
  | .hbm => 20
  | .vmem => 12
  | .smem => 1
  | _ => 0

abbrev bufTy : (tb : Table) → Fin (tcTables nBuf tb) → BufTy
  | .hbm, ⟨0, _⟩ => ⟨S8x1x5120, .bf16⟩
  | .hbm, ⟨1, _⟩ => ⟨S19072x2560, .i8⟩
  | .hbm, ⟨2, _⟩ => ⟨S19072x80, .i8⟩
  | .hbm, ⟨3, _⟩ => ⟨S5960, .f32⟩
  | .hbm, ⟨4, _⟩ => ⟨S_, .f32⟩
  | .hbm, ⟨5, _⟩ => ⟨S32x128, .i32⟩
  | .hbm, ⟨6, _⟩ => ⟨S2x128, .i32⟩
  | .hbm, ⟨7, _⟩ => ⟨S64x128, .i8⟩
  | .hbm, ⟨8, _⟩ => ⟨S8x20x128x2, .bf16⟩
  | .hbm, ⟨9, _⟩ => ⟨S8x20x2x128, .bf16⟩
  | .hbm, ⟨10, _⟩ => ⟨S8x5120, .bf16⟩
  | .hbm, ⟨11, _⟩ => ⟨S_, .i32⟩
  | .hbm, ⟨12, _⟩ => ⟨S_, .f32⟩
  | .hbm, ⟨13, _⟩ => ⟨S6000, .f32⟩
  | .hbm, ⟨14, _⟩ => ⟨S75x80, .f32⟩
  | .hbm, ⟨15, _⟩ => ⟨S_, .i32⟩
  | .hbm, ⟨16, _⟩ => ⟨S_, .f32⟩
  | .hbm, ⟨17, _⟩ => ⟨S75x128, .f32⟩
  | .hbm, ⟨18, _⟩ => ⟨S1x1, .f32⟩
  | .hbm, ⟨19, _⟩ => ⟨S8x19072, .bf16⟩
  | .local _ .vmem, ⟨0, _⟩ => ⟨S8x5120, .bf16⟩
  | .local _ .vmem, ⟨1, _⟩ => ⟨S1280x2560, .i8⟩
  | .local _ .vmem, ⟨2, _⟩ => ⟨S1280x2560, .i8⟩
  | .local _ .vmem, ⟨3, _⟩ => ⟨S1280x80, .i8⟩
  | .local _ .vmem, ⟨4, _⟩ => ⟨S1280x80, .i8⟩
  | .local _ .vmem, ⟨5, _⟩ => ⟨S75x128, .f32⟩
  | .local _ .vmem, ⟨6, _⟩ => ⟨S32x128, .i32⟩
  | .local _ .vmem, ⟨7, _⟩ => ⟨S2x128, .i32⟩
  | .local _ .vmem, ⟨8, _⟩ => ⟨S64x128, .i8⟩
  | .local _ .vmem, ⟨9, _⟩ => ⟨S8x1280, .bf16⟩
  | .local _ .vmem, ⟨10, _⟩ => ⟨S8x1280, .bf16⟩
  | .local _ .vmem, ⟨11, _⟩ => ⟨S2x2x40x128, .i32⟩
  | .local _ .smem, ⟨0, _⟩ => ⟨S1x1, .f32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [BitOps F]

abbrev grid0 : Pipeline.Grid := ⟨1, ![15], ![false]⟩

@[reducible] def k0_t1_loop : Scf.Loop 32 :=
  let c0_i32 : BitVec 32 := 0#32
  let c5_i32 : BitVec 32 := 5#32
  let v9 : BitVec 32 := Scalar.addi c0_i32 c5_i32
  let c1_i32_5 : BitVec 32 := 1#32
  ⟨c0_i32, v9, c1_i32_5⟩
def k0_mult1 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32 : BitVec 32 := 256#32
  let v12 : BitVec 32 := Scalar.muli arg11 c256_i32
  v12
def k0_off1 (k0_t1 : Fin k0_t1_loop.trips) : Fin 2 → Nat :=
  let c0_i32 : BitVec 32 := 0#32
  let c1_i32_5 : BitVec 32 := 1#32
  let arg11 : BitVec 32 := Scf.iv c0_i32 c1_i32_5 k0_t1
  let c256_i32 : BitVec 32 := 256#32
  let v12 : BitVec 32 := Scalar.muli arg11 c256_i32
  let v13 : BitVec 32 := v12
  let v14 : Index := Scalar.indexCast v13
  let c0_8 : Index := 0#32
  ![v14.toNat, 0]
def k0_off2 (i : grid0.Coords) (k0_t1 : Fin k0_t1_loop.trips) : Fin 2 → Nat :=
  let arg0 : BitVec 32 := BitVec.ofNat 32 (i 0).val
  let c5_i32_7 : BitVec 32 := 5#32
  let v10 : BitVec 32 := Scalar.muli arg0 c5_i32_7
  let c0_i32 : BitVec 32 := 0#32
  let c1_i32_5 : BitVec 32 := 1#32
  let arg11 : BitVec 32 := Scf.iv c0_i32 c1_i32_5 k0_t1
  let v11 : BitVec 32 := Scalar.addi v10 arg11
  let v20 : Index := Scalar.indexCast v11
  let c0_9 : Index := 0#32
  ![v20.toNat, 0]
@[reducible] def k0_t2_loop : Scf.Loop 32 :=
  let c0_i32_43 : BitVec 32 := 0#32
  let c20_i32 : BitVec 32 := 20#32
  let v135 : BitVec 32 := Scalar.addi c0_i32_43 c20_i32
  let c1_i32_44 : BitVec 32 := 1#32
  ⟨c0_i32_43, v135, c1_i32_44⟩
def k0_mult2 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32_58 : BitVec 32 := 256#32
  let v181 : BitVec 32 := Scalar.muli arg11 c256_i32_58
  v181
def k0_mult3 (k0_t2 : Fin k0_t2_loop.trips) : BitVec 32 :=
  let c0_i32_43 : BitVec 32 := 0#32
  let c1_i32_44 : BitVec 32 := 1#32
  let arg12 : BitVec 32 := Scf.iv c0_i32_43 c1_i32_44 k0_t2
  let c128_i32_59 : BitVec 32 := 128#32
  let v183 : BitVec 32 := Scalar.muli arg12 c128_i32_59
  v183
def k0_off3 (k0_t1 : Fin k0_t1_loop.trips) (k0_t2 : Fin k0_t2_loop.trips) : Fin 2 → Nat :=
  let c0_i32 : BitVec 32 := 0#32
  let c1_i32_5 : BitVec 32 := 1#32
  let arg11 : BitVec 32 := Scf.iv c0_i32 c1_i32_5 k0_t1
  let c256_i32_58 : BitVec 32 := 256#32
  let v181 : BitVec 32 := Scalar.muli arg11 c256_i32_58
  let v182 : BitVec 32 := v181
  let v185 : Index := Scalar.indexCast v182
  let c0_i32_43 : BitVec 32 := 0#32
  let c1_i32_44 : BitVec 32 := 1#32
  let arg12 : BitVec 32 := Scf.iv c0_i32_43 c1_i32_44 k0_t2
  let c128_i32_59 : BitVec 32 := 128#32
  let v183 : BitVec 32 := Scalar.muli arg12 c128_i32_59
  let v184 : BitVec 32 := v183
  let v186 : Index := Scalar.indexCast v184
  ![v185.toNat, v186.toNat]
def k0_off4 (k0_t2 : Fin k0_t2_loop.trips) (c0_i32_61 : BitVec 32) : Fin 4 → Nat :=
  let c0_62 : Index := 0#32
  let c0_63 : Index := 0#32
  let c0_i32_43 : BitVec 32 := 0#32
  let c1_i32_44 : BitVec 32 := 1#32
  let arg12 : BitVec 32 := Scf.iv c0_i32_43 c1_i32_44 k0_t2
  let c2_i32_60 : BitVec 32 := 2#32
  let v193 : BitVec 32 := Scalar.muli arg12 c2_i32_60
  let v194 : BitVec 32 := Scalar.addi v193 c0_i32_61
  let v195 : Index := Scalar.indexCast v194
  let c0_64 : Index := 0#32
  ![0, 0, v195.toNat, 0]
def k0_off5 (k0_t2 : Fin k0_t2_loop.trips) (c0_i32_66 : BitVec 32) : Fin 4 → Nat :=
  let c1_67 : Index := 1#32
  let c0_68 : Index := 0#32
  let c0_i32_43 : BitVec 32 := 0#32
  let c1_i32_44 : BitVec 32 := 1#32
  let arg12 : BitVec 32 := Scf.iv c0_i32_43 c1_i32_44 k0_t2
  let c2_i32_65 : BitVec 32 := 2#32
  let v200 : BitVec 32 := Scalar.muli arg12 c2_i32_65
  let v201 : BitVec 32 := Scalar.addi v200 c0_i32_66
  let v202 : Index := Scalar.indexCast v201
  let c0_69 : Index := 0#32
  ![1, 0, v202.toNat, 0]
def k0_off6 (k0_t2 : Fin k0_t2_loop.trips) (c0_i32_92 : BitVec 32) : Fin 4 → Nat :=
  let c0_93 : Index := 0#32
  let c1_94 : Index := 1#32
  let c0_i32_43 : BitVec 32 := 0#32
  let c1_i32_44 : BitVec 32 := 1#32
  let arg12 : BitVec 32 := Scf.iv c0_i32_43 c1_i32_44 k0_t2
  let c2_i32_91 : BitVec 32 := 2#32
  let v327 : BitVec 32 := Scalar.muli arg12 c2_i32_91
  let v328 : BitVec 32 := Scalar.addi v327 c0_i32_92
  let v329 : Index := Scalar.indexCast v328
  let c0_95 : Index := 0#32
  ![0, 1, v329.toNat, 0]
def k0_off7 (k0_t2 : Fin k0_t2_loop.trips) (c0_i32_97 : BitVec 32) : Fin 4 → Nat :=
  let c1_98 : Index := 1#32
  let c1_99 : Index := 1#32
  let c0_i32_43 : BitVec 32 := 0#32
  let c1_i32_44 : BitVec 32 := 1#32
  let arg12 : BitVec 32 := Scf.iv c0_i32_43 c1_i32_44 k0_t2
  let c2_i32_96 : BitVec 32 := 2#32
  let v334 : BitVec 32 := Scalar.muli arg12 c2_i32_96
  let v335 : BitVec 32 := Scalar.addi v334 c0_i32_97
  let v336 : Index := Scalar.indexCast v335
  let c0_100 : Index := 0#32
  ![1, 1, v336.toNat, 0]
def k0_mult4 (k0_t2 : Fin k0_t2_loop.trips) : BitVec 32 :=
  let c0_i32_43 : BitVec 32 := 0#32
  let c1_i32_44 : BitVec 32 := 1#32
  let arg12 : BitVec 32 := Scf.iv c0_i32_43 c1_i32_44 k0_t2
  let c2_i32_187 : BitVec 32 := 2#32
  let v731 : BitVec 32 := Scalar.muli arg12 c2_i32_187
  let c128_i32_188 : BitVec 32 := 128#32
  let v732 : BitVec 32 := Scalar.muli v731 c128_i32_188
  v732
def k0_off8 (k0_t2 : Fin k0_t2_loop.trips) : Fin 2 → Nat :=
  let c0_189 : Index := 0#32
  let c0_i32_43 : BitVec 32 := 0#32
  let c1_i32_44 : BitVec 32 := 1#32
  let arg12 : BitVec 32 := Scf.iv c0_i32_43 c1_i32_44 k0_t2
  let c2_i32_187 : BitVec 32 := 2#32
  let v731 : BitVec 32 := Scalar.muli arg12 c2_i32_187
  let c128_i32_188 : BitVec 32 := 128#32
  let v732 : BitVec 32 := Scalar.muli v731 c128_i32_188
  let v733 : BitVec 32 := v732
  let v734 : Index := Scalar.indexCast v733
  ![0, v734.toNat]
def k0_mult5 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32_50 : BitVec 32 := 256#32
  let v155 : BitVec 32 := Scalar.muli arg11 c256_i32_50
  let c0_i32_51 : BitVec 32 := 0#32
  let v156 : BitVec 32 := Scalar.addi v155 c0_i32_51
  v156
def k0_off9 (k0_t1 : Fin k0_t1_loop.trips) (c0_i32_51 : BitVec 32) : Fin 2 → Nat :=
  let c0_52 : Index := 0#32
  let c0_i32 : BitVec 32 := 0#32
  let c1_i32_5 : BitVec 32 := 1#32
  let arg11 : BitVec 32 := Scf.iv c0_i32 c1_i32_5 k0_t1
  let c256_i32_50 : BitVec 32 := 256#32
  let v155 : BitVec 32 := Scalar.muli arg11 c256_i32_50
  let v156 : BitVec 32 := Scalar.addi v155 c0_i32_51
  let v157 : BitVec 32 := v156
  let v158 : Index := Scalar.indexCast v157
  ![0, v158.toNat]
def k0_mult6 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32_56 : BitVec 32 := 256#32
  let v176 : BitVec 32 := Scalar.muli arg11 c256_i32_56
  let c128_i32 : BitVec 32 := 128#32
  let v177 : BitVec 32 := Scalar.addi v176 c128_i32
  v177
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x80 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S75x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S8x1x5120 : Shape := ⟨3, ![8, 1, 5120]⟩
abbrev S19072x2560 : Shape := ⟨2, ![19072, 2560]⟩
abbrev S19072x80 : Shape := ⟨2, ![19072, 80]⟩
abbrev S5960 : Shape := ⟨1, ![5960]⟩
abbrev S_ : Shape := ⟨0, ![]⟩
abbrev S32x128 : Shape := ⟨2, ![32, 128]⟩
abbrev S2x128 : Shape := ⟨2, ![2, 128]⟩
abbrev S64x128 : Shape := ⟨2, ![64, 128]⟩
abbrev S8x20x128x2 : Shape := ⟨4, ![8, 20, 128, 2]⟩
abbrev S8x20x2x128 : Shape := ⟨4, ![8, 20, 2, 128]⟩
abbrev S8x5120 : Shape := ⟨2, ![8, 5120]⟩
abbrev S6000 : Shape := ⟨1, ![6000]⟩
abbrev S75x80 : Shape := ⟨2, ![75, 80]⟩
abbrev S75x128 : Shape := ⟨2, ![75, 128]⟩
abbrev S1x1 : Shape := ⟨2, ![1, 1]⟩
abbrev S8x19072 : Shape := ⟨2, ![8, 19072]⟩
abbrev S1280x2560 : Shape := ⟨2, ![1280, 2560]⟩
abbrev S1280x80 : Shape := ⟨2, ![1280, 80]⟩
abbrev S8x1280 : Shape := ⟨2, ![8, 1280]⟩
abbrev S2x2x40x128 : Shape := ⟨4, ![2, 2, 40, 128]⟩
abbrev S2x2x40x2x128 : Shape := ⟨5, ![2, 2, 40, 2, 128]⟩
abbrev S2x2x40x1x128 : Shape := ⟨5, ![2, 2, 40, 1, 128]⟩
abbrev S8x128 : Shape := ⟨2, ![8, 128]⟩
abbrev S256x80 : Shape := ⟨2, ![256, 80]⟩
abbrev S64x80 : Shape := ⟨2, ![64, 80]⟩
abbrev S128x80 : Shape := ⟨2, ![128, 80]⟩
abbrev S80x128 : Shape := ⟨2, ![80, 128]⟩
abbrev S40x128 : Shape := ⟨2, ![40, 128]⟩
abbrev S1x128 : Shape := ⟨2, ![1, 128]⟩
abbrev S8x128x1 : Shape := ⟨3, ![8, 128, 1]⟩
abbrev S1x1x40x128 : Shape := ⟨4, ![1, 1, 40, 128]⟩
abbrev S1x1x40x2x128 : Shape := ⟨5, ![1, 1, 40, 2, 128]⟩
abbrev S1x1x40x1x128 : Shape := ⟨5, ![1, 1, 40, 1, 128]⟩
abbrev S8x256 : Shape := ⟨2, ![8, 256]⟩
abbrev S256x128 : Shape := ⟨2, ![256, 128]⟩
abbrev S128x128 : Shape := ⟨2, ![128, 128]⟩
abbrev S1x1x1x128 : Shape := ⟨4, ![1, 1, 1, 128]⟩
abbrev S1x1x1x2x128 : Shape := ⟨5, ![1, 1, 1, 2, 128]⟩
abbrev S1x1x1x1x128 : Shape := ⟨5, ![1, 1, 1, 1, 128]⟩
abbrev S16x128 : Shape := ⟨2, ![16, 128]⟩
abbrev S32x128x1 : Shape := ⟨3, ![32, 128, 1]⟩
abbrev S256x256 : Shape := ⟨2, ![256, 256]⟩

abbrev nBuf : Space → Nat
  | .hbm => 20
  | .vmem => 12
  | .smem => 1
  | _ => 0

abbrev bufTy : (tb : Table) → Fin (tcTables nBuf tb) → BufTy
  | .hbm, ⟨0, _⟩ => ⟨S8x1x5120, .bf16⟩
  | .hbm, ⟨1, _⟩ => ⟨S19072x2560, .i8⟩
  | .hbm, ⟨2, _⟩ => ⟨S19072x80, .i8⟩
  | .hbm, ⟨3, _⟩ => ⟨S5960, .f32⟩
  | .hbm, ⟨4, _⟩ => ⟨S_, .f32⟩
  | .hbm, ⟨5, _⟩ => ⟨S32x128, .i32⟩
  | .hbm, ⟨6, _⟩ => ⟨S2x128, .i32⟩
  | .hbm, ⟨7, _⟩ => ⟨S64x128, .i8⟩
  | .hbm, ⟨8, _⟩ => ⟨S8x20x128x2, .bf16⟩
  | .hbm, ⟨9, _⟩ => ⟨S8x20x2x128, .bf16⟩
  | .hbm, ⟨10, _⟩ => ⟨S8x5120, .bf16⟩
  | .hbm, ⟨11, _⟩ => ⟨S_, .i32⟩
  | .hbm, ⟨12, _⟩ => ⟨S_, .f32⟩
  | .hbm, ⟨13, _⟩ => ⟨S6000, .f32⟩
  | .hbm, ⟨14, _⟩ => ⟨S75x80, .f32⟩
  | .hbm, ⟨15, _⟩ => ⟨S_, .i32⟩
  | .hbm, ⟨16, _⟩ => ⟨S_, .f32⟩
  | .hbm, ⟨17, _⟩ => ⟨S75x128, .f32⟩
  | .hbm, ⟨18, _⟩ => ⟨S1x1, .f32⟩
  | .hbm, ⟨19, _⟩ => ⟨S8x19072, .bf16⟩
  | .local _ .vmem, ⟨0, _⟩ => ⟨S8x5120, .bf16⟩
  | .local _ .vmem, ⟨1, _⟩ => ⟨S1280x2560, .i8⟩
  | .local _ .vmem, ⟨2, _⟩ => ⟨S1280x2560, .i8⟩
  | .local _ .vmem, ⟨3, _⟩ => ⟨S1280x80, .i8⟩
  | .local _ .vmem, ⟨4, _⟩ => ⟨S1280x80, .i8⟩
  | .local _ .vmem, ⟨5, _⟩ => ⟨S75x128, .f32⟩
  | .local _ .vmem, ⟨6, _⟩ => ⟨S32x128, .i32⟩
  | .local _ .vmem, ⟨7, _⟩ => ⟨S2x128, .i32⟩
  | .local _ .vmem, ⟨8, _⟩ => ⟨S64x128, .i8⟩
  | .local _ .vmem, ⟨9, _⟩ => ⟨S8x1280, .bf16⟩
  | .local _ .vmem, ⟨10, _⟩ => ⟨S8x1280, .bf16⟩
  | .local _ .vmem, ⟨11, _⟩ => ⟨S2x2x40x2x128, .bf16⟩
  | .local _ .smem, ⟨0, _⟩ => ⟨S1x1, .f32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![15], ![false]⟩

@[reducible] def k0_t1_loop : Scf.Loop 32 :=
  let c0_i32 : BitVec 32 := 0#32
  let c5_i32 : BitVec 32 := 5#32
  let v9 : BitVec 32 := Scalar.addi c0_i32 c5_i32
  let c1_i32_5 : BitVec 32 := 1#32
  ⟨c0_i32, v9, c1_i32_5⟩
def k0_mult1 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32 : BitVec 32 := 256#32
  let v12 : BitVec 32 := Scalar.muli arg11 c256_i32
  v12
def k0_off1 (k0_t1 : Fin k0_t1_loop.trips) : Fin 2 → Nat :=
  let c0_i32 : BitVec 32 := 0#32
  let c1_i32_5 : BitVec 32 := 1#32
  let arg11 : BitVec 32 := Scf.iv c0_i32 c1_i32_5 k0_t1
  let c256_i32 : BitVec 32 := 256#32
  let v12 : BitVec 32 := Scalar.muli arg11 c256_i32
  let v13 : BitVec 32 := v12
  let v14 : Index := Scalar.indexCast v13
  let c0_8 : Index := 0#32
  ![v14.toNat, 0]
def k0_off2 (i : grid0.Coords) (k0_t1 : Fin k0_t1_loop.trips) : Fin 2 → Nat :=
  let arg0 : BitVec 32 := BitVec.ofNat 32 (i 0).val
  let c5_i32_7 : BitVec 32 := 5#32
  let v10 : BitVec 32 := Scalar.muli arg0 c5_i32_7
  let c0_i32 : BitVec 32 := 0#32
  let c1_i32_5 : BitVec 32 := 1#32
  let arg11 : BitVec 32 := Scf.iv c0_i32 c1_i32_5 k0_t1
  let v11 : BitVec 32 := Scalar.addi v10 arg11
  let v20 : Index := Scalar.indexCast v11
  let c0_9 : Index := 0#32
  ![v20.toNat, 0]
@[reducible] def k0_t2_loop : Scf.Loop 32 :=
  let c0_i32_43 : BitVec 32 := 0#32
  let c20_i32 : BitVec 32 := 20#32
  let v135 : BitVec 32 := Scalar.addi c0_i32_43 c20_i32
  let c1_i32_44 : BitVec 32 := 1#32
  ⟨c0_i32_43, v135, c1_i32_44⟩
def k0_mult2 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32_58 : BitVec 32 := 256#32
  let v181 : BitVec 32 := Scalar.muli arg11 c256_i32_58
  v181
def k0_mult3 (k0_t2 : Fin k0_t2_loop.trips) : BitVec 32 :=
  let c0_i32_43 : BitVec 32 := 0#32
  let c1_i32_44 : BitVec 32 := 1#32
  let arg12 : BitVec 32 := Scf.iv c0_i32_43 c1_i32_44 k0_t2
  let c128_i32_59 : BitVec 32 := 128#32
  let v183 : BitVec 32 := Scalar.muli arg12 c128_i32_59
  v183
def k0_off3 (k0_t1 : Fin k0_t1_loop.trips) (k0_t2 : Fin k0_t2_loop.trips) : Fin 2 → Nat :=
  let c0_i32 : BitVec 32 := 0#32
  let c1_i32_5 : BitVec 32 := 1#32
  let arg11 : BitVec 32 := Scf.iv c0_i32 c1_i32_5 k0_t1
  let c256_i32_58 : BitVec 32 := 256#32
  let v181 : BitVec 32 := Scalar.muli arg11 c256_i32_58
  let v182 : BitVec 32 := v181
  let v185 : Index := Scalar.indexCast v182
  let c0_i32_43 : BitVec 32 := 0#32
  let c1_i32_44 : BitVec 32 := 1#32
  let arg12 : BitVec 32 := Scf.iv c0_i32_43 c1_i32_44 k0_t2
  let c128_i32_59 : BitVec 32 := 128#32
  let v183 : BitVec 32 := Scalar.muli arg12 c128_i32_59
  let v184 : BitVec 32 := v183
  let v186 : Index := Scalar.indexCast v184
  ![v185.toNat, v186.toNat]
def k0_off4 (k0_t2 : Fin k0_t2_loop.trips) (c0_i32_61 : BitVec 32) : Fin 5 → Nat :=
  let c0_62 : Index := 0#32
  let c0_63 : Index := 0#32
  let c0_i32_43 : BitVec 32 := 0#32
  let c1_i32_44 : BitVec 32 := 1#32
  let arg12 : BitVec 32 := Scf.iv c0_i32_43 c1_i32_44 k0_t2
  let c2_i32_60 : BitVec 32 := 2#32
  let v193 : BitVec 32 := Scalar.muli arg12 c2_i32_60
  let v194 : BitVec 32 := Scalar.addi v193 c0_i32_61
  let v195 : Index := Scalar.indexCast v194
  let c0_64 : Index := 0#32
  ![0, 0, v195.toNat, 0, 0]
def k0_off5 (k0_t2 : Fin k0_t2_loop.trips) (c0_i32_66 : BitVec 32) : Fin 5 → Nat :=
  let c1_67 : Index := 1#32
  let c0_68 : Index := 0#32
  let c0_i32_43 : BitVec 32 := 0#32
  let c1_i32_44 : BitVec 32 := 1#32
  let arg12 : BitVec 32 := Scf.iv c0_i32_43 c1_i32_44 k0_t2
  let c2_i32_65 : BitVec 32 := 2#32
  let v200 : BitVec 32 := Scalar.muli arg12 c2_i32_65
  let v201 : BitVec 32 := Scalar.addi v200 c0_i32_66
  let v202 : Index := Scalar.indexCast v201
  let c0_69 : Index := 0#32
  ![1, 0, v202.toNat, 0, 0]
def k0_off6 (k0_t2 : Fin k0_t2_loop.trips) (c0_i32_92 : BitVec 32) : Fin 5 → Nat :=
  let c0_93 : Index := 0#32
  let c1_94 : Index := 1#32
  let c0_i32_43 : BitVec 32 := 0#32
  let c1_i32_44 : BitVec 32 := 1#32
  let arg12 : BitVec 32 := Scf.iv c0_i32_43 c1_i32_44 k0_t2
  let c2_i32_91 : BitVec 32 := 2#32
  let v327 : BitVec 32 := Scalar.muli arg12 c2_i32_91
  let v328 : BitVec 32 := Scalar.addi v327 c0_i32_92
  let v329 : Index := Scalar.indexCast v328
  let c0_95 : Index := 0#32
  ![0, 1, v329.toNat, 0, 0]
def k0_off7 (k0_t2 : Fin k0_t2_loop.trips) (c0_i32_97 : BitVec 32) : Fin 5 → Nat :=
  let c1_98 : Index := 1#32
  let c1_99 : Index := 1#32
  let c0_i32_43 : BitVec 32 := 0#32
  let c1_i32_44 : BitVec 32 := 1#32
  let arg12 : BitVec 32 := Scf.iv c0_i32_43 c1_i32_44 k0_t2
  let c2_i32_96 : BitVec 32 := 2#32
  let v334 : BitVec 32 := Scalar.muli arg12 c2_i32_96
  let v335 : BitVec 32 := Scalar.addi v334 c0_i32_97
  let v336 : Index := Scalar.indexCast v335
  let c0_100 : Index := 0#32
  ![1, 1, v336.toNat, 0, 0]
def k0_mult4 (k0_t2 : Fin k0_t2_loop.trips) : BitVec 32 :=
  let c0_i32_43 : BitVec 32 := 0#32
  let c1_i32_44 : BitVec 32 := 1#32
  let arg12 : BitVec 32 := Scf.iv c0_i32_43 c1_i32_44 k0_t2
  let c2_i32_187 : BitVec 32 := 2#32
  let v731 : BitVec 32 := Scalar.muli arg12 c2_i32_187
  let c128_i32_188 : BitVec 32 := 128#32
  let v732 : BitVec 32 := Scalar.muli v731 c128_i32_188
  v732
def k0_off8 (k0_t2 : Fin k0_t2_loop.trips) : Fin 2 → Nat :=
  let c0_189 : Index := 0#32
  let c0_i32_43 : BitVec 32 := 0#32
  let c1_i32_44 : BitVec 32 := 1#32
  let arg12 : BitVec 32 := Scf.iv c0_i32_43 c1_i32_44 k0_t2
  let c2_i32_187 : BitVec 32 := 2#32
  let v731 : BitVec 32 := Scalar.muli arg12 c2_i32_187
  let c128_i32_188 : BitVec 32 := 128#32
  let v732 : BitVec 32 := Scalar.muli v731 c128_i32_188
  let v733 : BitVec 32 := v732
  let v734 : Index := Scalar.indexCast v733
  ![0, v734.toNat]
def k0_mult5 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32_50 : BitVec 32 := 256#32
  let v155 : BitVec 32 := Scalar.muli arg11 c256_i32_50
  let c0_i32_51 : BitVec 32 := 0#32
  let v156 : BitVec 32 := Scalar.addi v155 c0_i32_51
  v156
def k0_off9 (k0_t1 : Fin k0_t1_loop.trips) (c0_i32_51 : BitVec 32) : Fin 2 → Nat :=
  let c0_52 : Index := 0#32
  let c0_i32 : BitVec 32 := 0#32
  let c1_i32_5 : BitVec 32 := 1#32
  let arg11 : BitVec 32 := Scf.iv c0_i32 c1_i32_5 k0_t1
  let c256_i32_50 : BitVec 32 := 256#32
  let v155 : BitVec 32 := Scalar.muli arg11 c256_i32_50
  let v156 : BitVec 32 := Scalar.addi v155 c0_i32_51
  let v157 : BitVec 32 := v156
  let v158 : Index := Scalar.indexCast v157
  ![0, v158.toNat]
def k0_mult6 (k0_t1 : Fin k0_t1_loop.trips) : BitVec 32 :=
  let c0_i32 : BitVec 32 := 0#32
  let c1_i32_5 : BitVec 32 := 1#32
  let arg11 : BitVec 32 := Scf.iv c0_i32 c1_i32_5 k0_t1
  let c256_i32_56 : BitVec 32 := 256#32
  let v176 : BitVec 32 := Scalar.muli arg11 c256_i32_56
  let c128_i32 : BitVec 32 := 128#32
  let v177 : BitVec 32 := Scalar.addi v176 c128_i32
  v177
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x80 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S75x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x1x5120 : Shape := ⟨3, ![8, 1, 5120]⟩
abbrev S19072x2560 : Shape := ⟨2, ![19072, 2560]⟩
abbrev S19072x80 : Shape := ⟨2, ![19072, 80]⟩
abbrev S5960 : Shape := ⟨1, ![5960]⟩
abbrev S_ : Shape := ⟨0, ![]⟩
abbrev S5960x256 : Shape := ⟨2, ![5960, 256]⟩
abbrev S5960x1 : Shape := ⟨2, ![5960, 1]⟩
abbrev S19072x80x32 : Shape := ⟨3, ![19072, 80, 32]⟩
abbrev S19072x80x1 : Shape := ⟨3, ![19072, 80, 1]⟩
abbrev S8x1x2560 : Shape := ⟨3, ![8, 1, 2560]⟩
abbrev S8x1x19072 : Shape := ⟨3, ![8, 1, 19072]⟩
abbrev S8x19072 : Shape := ⟨2, ![8, 19072]⟩

abbrev nBuf : Space → Nat
  | .hbm => 217
  | .vmem => 0
  | .smem => 0
  | _ => 0

abbrev hbmTy0_0 (i : Nat) : BufTy := match i % 128 with
  | 0 => ⟨S8x1x5120, .bf16⟩
  | 1 => ⟨S19072x2560, .i8⟩
  | 2 => ⟨S19072x80, .i8⟩
  | 3 => ⟨S5960, .f32⟩
  | 4 => ⟨S_, .f32⟩
  | 5 => ⟨S19072x80, .i32⟩
  | 6 => ⟨S5960x256, .i32⟩
  | 7 => ⟨S5960x256, .f32⟩
  | 8 => ⟨S5960x1, .f32⟩
  | 9 => ⟨S5960x256, .f32⟩
  | 10 => ⟨S5960x256, .f32⟩
  | 11 => ⟨S5960x256, .f32⟩
  | 12 => ⟨S5960x256, .f32⟩
  | 13 => ⟨S19072x80, .f32⟩
  | 14 => ⟨S19072x80, .bf16⟩
  | 15 => ⟨S19072x2560, .i32⟩
  | 16 => ⟨S_, .i32⟩
  | 17 => ⟨S19072x2560, .i32⟩
  | 18 => ⟨S19072x2560, .i32⟩
  | 19 => ⟨S_, .i32⟩
  | 20 => ⟨S19072x2560, .i32⟩
  | 21 => ⟨S19072x2560, .i32⟩
  | 22 => ⟨S19072x2560, .i32⟩
  | 23 => ⟨S_, .i32⟩
  | 24 => ⟨S19072x2560, .i32⟩
  | 25 => ⟨S19072x2560, .i32⟩
  | 26 => ⟨S_, .i32⟩
  | 27 => ⟨S19072x2560, .i32⟩
  | 28 => ⟨S19072x2560, .i32⟩
  | 29 => ⟨S_, .i32⟩
  | 30 => ⟨S19072x2560, .i32⟩
  | 31 => ⟨S19072x2560, .i32⟩
  | 32 => ⟨S_, .i32⟩
  | 33 => ⟨S19072x2560, .i32⟩
  | 34 => ⟨S19072x2560, .i1⟩
  | 35 => ⟨S19072x2560, .i1⟩
  | 36 => ⟨S_, .bf16⟩
  | 37 => ⟨S_, .bf16⟩
  | 38 => ⟨S19072x2560, .bf16⟩
  | 39 => ⟨S19072x2560, .bf16⟩
  | 40 => ⟨S19072x2560, .bf16⟩
  | 41 => ⟨S_, .bf16⟩
  | 42 => ⟨S_, .bf16⟩
  | 43 => ⟨S19072x2560, .bf16⟩
  | 44 => ⟨S19072x2560, .bf16⟩
  | 45 => ⟨S19072x2560, .bf16⟩
  | 46 => ⟨S_, .bf16⟩
  | 47 => ⟨S_, .bf16⟩
  | 48 => ⟨S19072x2560, .bf16⟩
  | 49 => ⟨S19072x2560, .bf16⟩
  | 50 => ⟨S19072x2560, .bf16⟩
  | 51 => ⟨S_, .bf16⟩
  | 52 => ⟨S_, .bf16⟩
  | 53 => ⟨S19072x2560, .bf16⟩
  | 54 => ⟨S19072x2560, .bf16⟩
  | 55 => ⟨S19072x2560, .bf16⟩
  | 56 => ⟨S_, .bf16⟩
  | 57 => ⟨S_, .bf16⟩
  | 58 => ⟨S19072x2560, .bf16⟩
  | 59 => ⟨S19072x2560, .bf16⟩
  | 60 => ⟨S19072x2560, .bf16⟩
  | 61 => ⟨S_, .bf16⟩
  | 62 => ⟨S_, .bf16⟩
  | 63 => ⟨S19072x2560, .bf16⟩
  | 64 => ⟨S19072x2560, .bf16⟩
  | 65 => ⟨S19072x2560, .bf16⟩
  | 66 => ⟨S_, .bf16⟩
  | 67 => ⟨S_, .bf16⟩
  | 68 => ⟨S19072x2560, .bf16⟩
  | 69 => ⟨S19072x2560, .bf16⟩
  | 70 => ⟨S19072x2560, .bf16⟩
  | 71 => ⟨S_, .bf16⟩
  | 72 => ⟨S_, .bf16⟩
  | 73 => ⟨S19072x2560, .bf16⟩
  | 74 => ⟨S19072x2560, .bf16⟩
  | 75 => ⟨S19072x2560, .bf16⟩
  | 76 => ⟨S_, .i32⟩
  | 77 => ⟨S19072x2560, .i32⟩
  | 78 => ⟨S19072x2560, .i32⟩
  | 79 => ⟨S_, .i32⟩
  | 80 => ⟨S19072x2560, .i32⟩
  | 81 => ⟨S19072x2560, .i32⟩
  | 82 => ⟨S_, .i32⟩
  | 83 => ⟨S19072x2560, .i32⟩
  | 84 => ⟨S19072x2560, .i1⟩
  | 85 => ⟨S19072x2560, .i1⟩
  | 86 => ⟨S19072x2560, .bf16⟩
  | 87 => ⟨S19072x2560, .bf16⟩
  | 88 => ⟨S19072x2560, .bf16⟩
  | 89 => ⟨S19072x2560, .bf16⟩
  | 90 => ⟨S_, .i32⟩
  | 91 => ⟨S19072x2560, .i32⟩
  | 92 => ⟨S19072x2560, .i32⟩
  | 93 => ⟨S_, .i32⟩
  | 94 => ⟨S19072x2560, .i32⟩
  | 95 => ⟨S19072x2560, .i32⟩
  | 96 => ⟨S_, .i32⟩
  | 97 => ⟨S19072x2560, .i32⟩
  | 98 => ⟨S19072x2560, .i1⟩
  | 99 => ⟨S19072x2560, .i1⟩
  | 100 => ⟨S19072x2560, .bf16⟩
  | 101 => ⟨S19072x2560, .bf16⟩
  | 102 => ⟨S_, .i32⟩
  | 103 => ⟨S19072x2560, .i32⟩
  | 104 => ⟨S19072x2560, .i32⟩
  | 105 => ⟨S_, .i32⟩
  | 106 => ⟨S19072x2560, .i32⟩
  | 107 => ⟨S19072x2560, .i32⟩
  | 108 => ⟨S_, .i32⟩
  | 109 => ⟨S19072x2560, .i32⟩
  | 110 => ⟨S19072x2560, .i1⟩
  | 111 => ⟨S19072x2560, .i1⟩
  | 112 => ⟨S19072x2560, .bf16⟩
  | 113 => ⟨S19072x80x32, .bf16⟩
  | 114 => ⟨S19072x80x1, .bf16⟩
  | 115 => ⟨S19072x80x32, .bf16⟩
  | 116 => ⟨S19072x80x32, .bf16⟩
  | 117 => ⟨S19072x2560, .bf16⟩
  | 118 => ⟨S_, .i32⟩
  | 119 => ⟨S19072x2560, .i32⟩
  | 120 => ⟨S19072x2560, .i32⟩
  | 121 => ⟨S_, .i32⟩
  | 122 => ⟨S19072x2560, .i32⟩
  | 123 => ⟨S19072x2560, .i32⟩
  | 124 => ⟨S_, .i32⟩
  | 125 => ⟨S19072x2560, .i32⟩
  | 126 => ⟨S19072x2560, .i1⟩
  | 127 => ⟨S19072x2560, .i1⟩
  | _ => ⟨S8x1x5120, .bf16⟩

abbrev hbmTy0_1 (i : Nat) : BufTy := match i % 128 with
  | 0 => ⟨S_, .bf16⟩
  | 1 => ⟨S_, .bf16⟩
  | 2 => ⟨S19072x2560, .bf16⟩
  | 3 => ⟨S19072x2560, .bf16⟩
  | 4 => ⟨S19072x2560, .bf16⟩
  | 5 => ⟨S_, .bf16⟩
  | 6 => ⟨S_, .bf16⟩
  | 7 => ⟨S19072x2560, .bf16⟩
  | 8 => ⟨S19072x2560, .bf16⟩
  | 9 => ⟨S19072x2560, .bf16⟩
  | 10 => ⟨S_, .bf16⟩
  | 11 => ⟨S_, .bf16⟩
  | 12 => ⟨S19072x2560, .bf16⟩
  | 13 => ⟨S19072x2560, .bf16⟩
  | 14 => ⟨S19072x2560, .bf16⟩
  | 15 => ⟨S_, .bf16⟩
  | 16 => ⟨S_, .bf16⟩
  | 17 => ⟨S19072x2560, .bf16⟩
  | 18 => ⟨S19072x2560, .bf16⟩
  | 19 => ⟨S19072x2560, .bf16⟩
  | 20 => ⟨S_, .bf16⟩
  | 21 => ⟨S_, .bf16⟩
  | 22 => ⟨S19072x2560, .bf16⟩
  | 23 => ⟨S19072x2560, .bf16⟩
  | 24 => ⟨S19072x2560, .bf16⟩
  | 25 => ⟨S_, .bf16⟩
  | 26 => ⟨S_, .bf16⟩
  | 27 => ⟨S19072x2560, .bf16⟩
  | 28 => ⟨S19072x2560, .bf16⟩
  | 29 => ⟨S19072x2560, .bf16⟩
  | 30 => ⟨S_, .bf16⟩
  | 31 => ⟨S_, .bf16⟩
  | 32 => ⟨S19072x2560, .bf16⟩
  | 33 => ⟨S19072x2560, .bf16⟩
  | 34 => ⟨S19072x2560, .bf16⟩
  | 35 => ⟨S_, .bf16⟩
  | 36 => ⟨S_, .bf16⟩
  | 37 => ⟨S19072x2560, .bf16⟩
  | 38 => ⟨S19072x2560, .bf16⟩
  | 39 => ⟨S19072x2560, .bf16⟩
  | 40 => ⟨S_, .i32⟩
  | 41 => ⟨S19072x2560, .i32⟩
  | 42 => ⟨S19072x2560, .i32⟩
  | 43 => ⟨S_, .i32⟩
  | 44 => ⟨S19072x2560, .i32⟩
  | 45 => ⟨S19072x2560, .i32⟩
  | 46 => ⟨S_, .i32⟩
  | 47 => ⟨S19072x2560, .i32⟩
  | 48 => ⟨S19072x2560, .i1⟩
  | 49 => ⟨S19072x2560, .i1⟩
  | 50 => ⟨S19072x2560, .bf16⟩
  | 51 => ⟨S19072x2560, .bf16⟩
  | 52 => ⟨S19072x2560, .bf16⟩
  | 53 => ⟨S19072x2560, .bf16⟩
  | 54 => ⟨S_, .i32⟩
  | 55 => ⟨S19072x2560, .i32⟩
  | 56 => ⟨S19072x2560, .i32⟩
  | 57 => ⟨S_, .i32⟩
  | 58 => ⟨S19072x2560, .i32⟩
  | 59 => ⟨S19072x2560, .i32⟩
  | 60 => ⟨S_, .i32⟩
  | 61 => ⟨S19072x2560, .i32⟩
  | 62 => ⟨S19072x2560, .i1⟩
  | 63 => ⟨S19072x2560, .i1⟩
  | 64 => ⟨S19072x2560, .bf16⟩
  | 65 => ⟨S19072x2560, .bf16⟩
  | 66 => ⟨S_, .i32⟩
  | 67 => ⟨S19072x2560, .i32⟩
  | 68 => ⟨S19072x2560, .i32⟩
  | 69 => ⟨S_, .i32⟩
  | 70 => ⟨S19072x2560, .i32⟩
  | 71 => ⟨S19072x2560, .i32⟩
  | 72 => ⟨S_, .i32⟩
  | 73 => ⟨S19072x2560, .i32⟩
  | 74 => ⟨S19072x2560, .i1⟩
  | 75 => ⟨S19072x2560, .i1⟩
  | 76 => ⟨S19072x2560, .bf16⟩
  | 77 => ⟨S19072x80x32, .bf16⟩
  | 78 => ⟨S19072x80x1, .bf16⟩
  | 79 => ⟨S19072x80x32, .bf16⟩
  | 80 => ⟨S19072x80x32, .bf16⟩
  | 81 => ⟨S19072x2560, .bf16⟩
  | 82 => ⟨S8x1x2560, .bf16⟩
  | 83 => ⟨S8x1x19072, .f32⟩
  | 84 => ⟨S8x1x2560, .bf16⟩
  | 85 => ⟨S8x1x19072, .f32⟩
  | 86 => ⟨S8x1x19072, .f32⟩
  | 87 => ⟨S8x1x19072, .bf16⟩
  | 88 => ⟨S8x19072, .bf16⟩
  | _ => ⟨S8x1x5120, .bf16⟩

abbrev hbmTy (i : Nat) : BufTy := match i / 128 with
  | 0 => hbmTy0_0 i
  | 1 => hbmTy0_1 i
  | _ => ⟨S8x1x5120, .bf16⟩

abbrev bufTy : (tb : Table) → Fin (tcTables nBuf tb) → BufTy
  | .hbm, ⟨i, _⟩ => hbmTy i
  | _, _ => ⟨S8x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_cst_6 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_cst_8 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_v27 : Ref sig .tc := ⟨.hbm, 50, rfl⟩
abbrev main_cst_10 : Ref sig .tc := ⟨.hbm, 51, rfl⟩
abbrev main_cst_11 : Ref sig .tc := ⟨.hbm, 52, rfl⟩
abbrev main_call3_v0 : Ref sig .tc := ⟨.hbm, 53, rfl⟩
abbrev main_call3_v1 : Ref sig .tc := ⟨.hbm, 54, rfl⟩
abbrev main_v28 : Ref sig .tc := ⟨.hbm, 55, rfl⟩
abbrev main_cst_12 : Ref sig .tc := ⟨.hbm, 56, rfl⟩
abbrev main_cst_13 : Ref sig .tc := ⟨.hbm, 57, rfl⟩
abbrev main_call4_v0 : Ref sig .tc := ⟨.hbm, 58, rfl⟩
abbrev main_call4_v1 : Ref sig .tc := ⟨.hbm, 59, rfl⟩
abbrev main_v29 : Ref sig .tc := ⟨.hbm, 60, rfl⟩
abbrev main_cst_14 : Ref sig .tc := ⟨.hbm, 61, rfl⟩
abbrev main_cst_15 : Ref sig .tc := ⟨.hbm, 62, rfl⟩
abbrev main_call5_v0 : Ref sig .tc := ⟨.hbm, 63, rfl⟩
abbrev main_call5_v1 : Ref sig .tc := ⟨.hbm, 64, rfl⟩
abbrev main_v30 : Ref sig .tc := ⟨.hbm, 65, rfl⟩
abbrev main_cst_16 : Ref sig .tc := ⟨.hbm, 66, rfl⟩
abbrev main_cst_17 : Ref sig .tc := ⟨.hbm, 67, rfl⟩
abbrev main_call6_v0 : Ref sig .tc := ⟨.hbm, 68, rfl⟩
abbrev main_call6_v1 : Ref sig .tc := ⟨.hbm, 69, rfl⟩
abbrev main_v31 : Ref sig .tc := ⟨.hbm, 70, rfl⟩
abbrev main_cst_18 : Ref sig .tc := ⟨.hbm, 71, rfl⟩
abbrev main_cst_19 : Ref sig .tc := ⟨.hbm, 72, rfl⟩
abbrev main_call7_v0 : Ref sig .tc := ⟨.hbm, 73, rfl⟩
abbrev main_call7_v1 : Ref sig .tc := ⟨.hbm, 74, rfl⟩
abbrev main_v32 : Ref sig .tc := ⟨.hbm, 75, rfl⟩
abbrev main_c_20 : Ref sig .tc := ⟨.hbm, 76, rfl⟩
abbrev main_v33 : Ref sig .tc := ⟨.hbm, 77, rfl⟩
abbrev main_v34 : Ref sig .tc := ⟨.hbm, 78, rfl⟩
abbrev main_c_21 : Ref sig .tc := ⟨.hbm, 79, rfl⟩
abbrev main_v35 : Ref sig .tc := ⟨.hbm, 80, rfl⟩
abbrev main_v36 : Ref sig .tc := ⟨.hbm, 81, rfl⟩
abbrev main_c_22 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_23 : Ref sig .tc := ⟨.hbm, 90, rfl⟩
abbrev main_v44 : Ref sig .tc := ⟨.hbm, 91, rfl⟩
abbrev main_v45 : Ref sig .tc := ⟨.hbm, 92, rfl⟩
abbrev main_c_24 : Ref sig .tc := ⟨.hbm, 93, rfl⟩
abbrev main_v46 : Ref sig .tc := ⟨.hbm, 94, rfl⟩
abbrev main_v47 : Ref sig .tc := ⟨.hbm, 95, rfl⟩
abbrev main_c_25 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_c_26 : Ref sig .tc := ⟨.hbm, 102, rfl⟩
abbrev main_v53 : Ref sig .tc := ⟨.hbm, 103, rfl⟩
abbrev main_v54 : Ref sig .tc := ⟨.hbm, 104, rfl⟩
abbrev main_c_27 : Ref sig .tc := ⟨.hbm, 105, rfl⟩
abbrev main_v55 : Ref sig .tc := ⟨.hbm, 106, rfl⟩
abbrev main_v56 : Ref sig .tc := ⟨.hbm, 107, rfl⟩
abbrev main_c_28 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_c_29 : Ref sig .tc := ⟨.hbm, 118, rfl⟩
abbrev main_v66 : Ref sig .tc := ⟨.hbm, 119, rfl⟩
abbrev main_v67 : Ref sig .tc := ⟨.hbm, 120, rfl⟩
abbrev main_c_30 : Ref sig .tc := ⟨.hbm, 121, rfl⟩
abbrev main_v68 : Ref sig .tc := ⟨.hbm, 122, rfl⟩
abbrev main_v69 : Ref sig .tc := ⟨.hbm, 123, rfl⟩
abbrev main_c_31 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_32 : Ref sig .tc := ⟨.hbm, 128, rfl⟩
abbrev main_cst_33 : Ref sig .tc := ⟨.hbm, 129, rfl⟩
abbrev main_call15_v0 : Ref sig .tc := ⟨.hbm, 130, rfl⟩
abbrev main_call15_v1 : Ref sig .tc := ⟨.hbm, 131, rfl⟩
abbrev main_v73 : Ref sig .tc := ⟨.hbm, 132, rfl⟩
abbrev main_cst_34 : Ref sig .tc := ⟨.hbm, 133, rfl⟩
abbrev main_cst_35 : Ref sig .tc := ⟨.hbm, 134, rfl⟩
abbrev main_call16_v0 : Ref sig .tc := ⟨.hbm, 135, rfl⟩
abbrev main_call16_v1 : Ref sig .tc := ⟨.hbm, 136, rfl⟩
abbrev main_v74 : Ref sig .tc := ⟨.hbm, 137, rfl⟩
abbrev main_cst_36 : Ref sig .tc := ⟨.hbm, 138, rfl⟩
abbrev main_cst_37 : Ref sig .tc := ⟨.hbm, 139, rfl⟩
abbrev main_call17_v0 : Ref sig .tc := ⟨.hbm, 140, rfl⟩
abbrev main_call17_v1 : Ref sig .tc := ⟨.hbm, 141, rfl⟩
abbrev main_v75 : Ref sig .tc := ⟨.hbm, 142, rfl⟩
abbrev main_cst_38 : Ref sig .tc := ⟨.hbm, 143, rfl⟩
abbrev main_cst_39 : Ref sig .tc := ⟨.hbm, 144, rfl⟩
abbrev main_call18_v0 : Ref sig .tc := ⟨.hbm, 145, rfl⟩
abbrev main_call18_v1 : Ref sig .tc := ⟨.hbm, 146, rfl⟩
abbrev main_v76 : Ref sig .tc := ⟨.hbm, 147, rfl⟩
abbrev main_cst_40 : Ref sig .tc := ⟨.hbm, 148, rfl⟩
abbrev main_cst_41 : Ref sig .tc := ⟨.hbm, 149, rfl⟩
abbrev main_call19_v0 : Ref sig .tc := ⟨.hbm, 150, rfl⟩
abbrev main_call19_v1 : Ref sig .tc := ⟨.hbm, 151, rfl⟩
abbrev main_v77 : Ref sig .tc := ⟨.hbm, 152, rfl⟩
abbrev main_cst_42 : Ref sig .tc := ⟨.hbm, 153, rfl⟩
abbrev main_cst_43 : Ref sig .tc := ⟨.hbm, 154, rfl⟩
abbrev main_call20_v0 : Ref sig .tc := ⟨.hbm, 155, rfl⟩
abbrev main_call20_v1 : Ref sig .tc := ⟨.hbm, 156, rfl⟩
abbrev main_v78 : Ref sig .tc := ⟨.hbm, 157, rfl⟩
abbrev main_cst_44 : Ref sig .tc := ⟨.hbm, 158, rfl⟩
abbrev main_cst_45 : Ref sig .tc := ⟨.hbm, 159, rfl⟩
abbrev main_call21_v0 : Ref sig .tc := ⟨.hbm, 160, rfl⟩
abbrev main_call21_v1 : Ref sig .tc := ⟨.hbm, 161, rfl⟩
abbrev main_v79 : Ref sig .tc := ⟨.hbm, 162, rfl⟩
abbrev main_cst_46 : Ref sig .tc := ⟨.hbm, 163, rfl⟩
abbrev main_cst_47 : Ref sig .tc := ⟨.hbm, 164, rfl⟩
abbrev main_call22_v0 : Ref sig .tc := ⟨.hbm, 165, rfl⟩
abbrev main_call22_v1 : Ref sig .tc := ⟨.hbm, 166, rfl⟩
abbrev main_v80 : Ref sig .tc := ⟨.hbm, 167, rfl⟩
abbrev main_c_48 : Ref sig .tc := ⟨.hbm, 168, rfl⟩
abbrev main_v81 : Ref sig .tc := ⟨.hbm, 169, rfl⟩
abbrev main_v82 : Ref sig .tc := ⟨.hbm, 170, rfl⟩
abbrev main_c_49 : Ref sig .tc := ⟨.hbm, 171, rfl⟩
abbrev main_v83 : Ref sig .tc := ⟨.hbm, 172, rfl⟩
abbrev main_v84 : Ref sig .tc := ⟨.hbm, 173, rfl⟩
abbrev main_c_50 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_c_51 : Ref sig .tc := ⟨.hbm, 182, rfl⟩
abbrev main_v92 : Ref sig .tc := ⟨.hbm, 183, rfl⟩
abbrev main_v93 : Ref sig .tc := ⟨.hbm, 184, rfl⟩
abbrev main_c_52 : Ref sig .tc := ⟨.hbm, 185, rfl⟩
abbrev main_v94 : Ref sig .tc := ⟨.hbm, 186, rfl⟩
abbrev main_v95 : Ref sig .tc := ⟨.hbm, 187, rfl⟩
abbrev main_c_53 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_c_54 : Ref sig .tc := ⟨.hbm, 194, rfl⟩
abbrev main_v101 : Ref sig .tc := ⟨.hbm, 195, rfl⟩
abbrev main_v102 : Ref sig .tc := ⟨.hbm, 196, rfl⟩
abbrev main_c_55 : Ref sig .tc := ⟨.hbm, 197, rfl⟩
abbrev main_v103 : Ref sig .tc := ⟨.hbm, 198, rfl⟩
abbrev main_v104 : Ref sig .tc := ⟨.hbm, 199, rfl⟩
abbrev main_c_56 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩

abbrev nD : Nat := 1
abbrev τ : Topo := Topo.v7x

variable {F : FTy → Type} [FloatOps F]
-- ==== Proof.KernelLoop.lean ====
/- The group loop of the kernel: what one trip does to the buffers, and the invariant over the five trips.

   One trip handles 256 output columns. It reads the input, the packed weights, the codes, the scale table and the two
   small index tables; it fills the scale scratch; and it writes two pieces of the result block. -/
module

public import proofs.«01_k».proof.Proof.Gen.Kernel.Loops
public import proofs.«01_k».proof.Proof.Gen.Kernel.Frame
public import Idealize.ShloMosaic.Lib.Exec
public import Idealize.ShloMosaic.Lib.Tactic
public import Idealize.ShloMosaic.Lib.WordCmp

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

section Loop

variable (c : Dev nD) (i : grid0.Coords)
  (arg1 : Memref sig .tc .smem S1x1 .f32) (harg1 : arg1.IsWhole)
  (arg2 : Memref sig .tc .vmem S8x5120 .bf16) (harg2 : arg2.IsWhole)
  (arg3 : Memref sig .tc .vmem S1280x2560 .i8) (harg3 : arg3.IsWhole)
  (arg4 : Memref sig .tc .vmem S1280x80 .i8) (harg4 : arg4.IsWhole)
  (arg5 : Memref sig .tc .vmem S75x128 .f32) (harg5 : arg5.IsWhole)
  (arg6 : Memref sig .tc .vmem S32x128 .i32) (harg6 : arg6.IsWhole)
  (arg7 : Memref sig .tc .vmem S2x128 .i32) (harg7 : arg7.IsWhole)
  (arg8 : Memref sig .tc .vmem S64x128 .i8) (harg8 : arg8.IsWhole)
  (arg9 : Memref sig .tc .vmem S8x1280 .bf16) (harg9 : arg9.IsWhole)
  (arg10 : Memref sig .tc .vmem S2x2x40x128 .i32) (harg10 : arg10.IsWhole)
  (arg0 : BitVec 32)
  (v0 : Elt F .f32) (v1 : Vec F S32x128 .i8) (v2 : Vec F S32x128 .i8) (v8 : IVec S8x128 32)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)

/-- The six buffers a trip only reads, each at its contents. -/
abbrev Held : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7))

/-- What one trip holds: the six read buffers, the result block at `f9`, the scale scratch at some contents. -/
abbrev Trip (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (arg9.view.loc (c : Thread nD τ) ↦[arg9.view.set]{fullShare} f9)
    ∗ (∃ f10, (arg10.view.loc (c : Thread nD τ) ↦[arg10.view.set]{fullShare} f10)))

/-- One trip at a symbolic group `k`: the pieces it writes over the result block, found by running it. -/
@[irreducible] def trip (k : Fin k0_t1_loop.trips) :
    { L : List (View.Piece (Elt F) S8x1280 .bf16) // ∀ (f9 : BufTy.Contents (Elt F) arg9.view.ty),
      Trip (F := F) c arg2 arg3 arg4 arg5 arg6 arg7 arg9 arg10 X2 X3 X4 X5 X6 X7 f9
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg0 v0 v1 v2 v8 k ())
          (fun _ => Trip (F := F) c arg2 arg3 arg4 arg5 arg6 arg7 arg9 arg10 X2 X3 X4 X5 X6 X7 (arg9.view.writes (Elt F) f9 L)) } := by
  have hk : k.val < 5 := Nat.lt_of_lt_of_le k.isLt k0_t1_abs.2.1
  refine ⟨?_, fun f9 => ?run⟩
  case run =>
    unfold k0_t1_body
    iintro ⟨H2, H3, H4, H5, H6, H7, H9, ⟨%f10, H10⟩⟩
    sl_exec
    sl_step
    sl_close

/-- The pieces of one trip. -/
abbrev tripL (k : Fin k0_t1_loop.trips) : List (View.Piece (Elt F) S8x1280 .bf16) :=
  (trip (F := F) c i arg1 harg1 arg2 harg2 arg3 harg3 arg4 harg4 arg5 harg5 arg6 harg6 arg7 harg7 arg8 harg8 arg9 harg9 arg10 harg10 arg0 v0 v1 v2 v8 X2 X3 X4 X5 X6 X7 k).1

/-- The pieces after trip `k`, given those before it. -/
@[irreducible] def pbStep (k : ℕ) (prev : List (View.Piece (Elt F) S8x1280 .bf16)) :
    List (View.Piece (Elt F) S8x1280 .bf16) :=
  if h : k < k0_t1_loop.trips then tripL (F := F) c i arg1 harg1 arg2 harg2 arg3 harg3 arg4 harg4 arg5 harg5 arg6 harg6 arg7 harg7 arg8 harg8 arg9 harg9 arg10 harg10 arg0 v0 v1 v2 v8 X2 X3 X4 X5 X6 X7 ⟨k, h⟩ ++ prev else prev

/-- All the pieces written before trip `k`, newest first. -/
def pb : ℕ → List (View.Piece (Elt F) S8x1280 .bf16)
  | 0 => []
  | k + 1 => pbStep (F := F) c i arg1 harg1 arg2 harg2 arg3 harg3 arg4 harg4 arg5 harg5 arg6 harg6 arg7 harg7 arg8 harg8 arg9 harg9 arg10 harg10 arg0 v0 v1 v2 v8 X2 X3 X4 X5 X6 X7 k (pb k)

/-- The pieces written after one more trip are that trip's above the ones before. -/
theorem pb_succ (k : Fin k0_t1_loop.trips) :
    pb (F := F) c i arg1 harg1 arg2 harg2 arg3 harg3 arg4 harg4 arg5 harg5 arg6 harg6 arg7 harg7 arg8 harg8 arg9 harg9 arg10 harg10 arg0 v0 v1 v2 v8 X2 X3 X4 X5 X6 X7 (k.val + 1)
      = tripL (F := F) c i arg1 harg1 arg2 harg2 arg3 harg3 arg4 harg4 arg5 harg5 arg6 harg6 arg7 harg7 arg8 harg8 arg9 harg9 arg10 harg10 arg0 v0 v1 v2 v8 X2 X3 X4 X5 X6 X7 k
        ++ pb (F := F) c i arg1 harg1 arg2 harg2 arg3 harg3 arg4 harg4 arg5 harg5 arg6 harg6 arg7 harg7 arg8 harg8 arg9 harg9 arg10 harg10 arg0 v0 v1 v2 v8 X2 X3 X4 X5 X6 X7 k.val := by
  rw [pb.eq_2]; unfold pbStep; exact dif_pos k.isLt

/-- The invariant before trip `k`: the six read buffers, the result block under the pieces so far, the scratch. -/
abbrev inv (G9 : BufTy.Contents (Elt F) arg9.view.ty) (k : ℕ) (_u : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg9.view.loc (c : Thread nD τ) ↦[arg9.view.set]{fullShare} f)
        ∗ ⌜f = arg9.view.writes (Elt F) G9 (pb (F := F) c i arg1 harg1 arg2 harg2 arg3 harg3 arg4 harg4 arg5 harg5 arg6 harg6 arg7 harg7 arg8 harg8 arg9 harg9 arg10 harg10 arg0 v0 v1 v2 v8 X2 X3 X4 X5 X6 X7 k)⌝)
    ∗ (∃ f10, (arg10.view.loc (c : Thread nD τ) ↦[arg10.view.set]{fullShare} f10)))

set_option warn.classDefReducibility false in
/-- The group loop by its invariant. -/
@[sl_loop] def loopInv_k0_t1 (G9 : BufTy.Contents (Elt F) arg9.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg0 v0 v1 v2 v8 where
  inv := inv (F := F) c i arg1 harg1 arg2 harg2 arg3 harg3 arg4 harg4 arg5 harg5 arg6 harg6 arg7 harg7 arg8 harg8 arg9 harg9 arg10 harg10 arg0 v0 v1 v2 v8 X2 X3 X4 X5 X6 X7 G9
  step k acc := by
    iintro ⟨H2, H3, H4, H5, H6, H7, ⟨%f, HW, %hf⟩, H10⟩
    iapply (wp_wand_r Idealize.ShloMosaic.frame (wpE (defs₀ (F := F)) Variants.none (c : Thread nD τ) none) Set.univ)
    isplitl [H2 H3 H4 H5 H6 H7 HW H10]
    · iapply ((trip (F := F) c i arg1 harg1 arg2 harg2 arg3 harg3 arg4 harg4 arg5 harg5 arg6 harg6 arg7 harg7 arg8 harg8 arg9 harg9 arg10 harg10 arg0 v0 v1 v2 v8 X2 X3 X4 X5 X6 X7 k).2 f)
      isplitl [H2]; · iexact H2
      isplitl [H3]; · iexact H3
      isplitl [H4]; · iexact H4
      isplitl [H5]; · iexact H5
      isplitl [H6]; · iexact H6
      isplitl [H7]; · iexact H7
      isplitl [HW]; · iexact HW
      iexact H10
    · iintro %_ ⟨H2, H3, H4, H5, H6, H7, HW, H10⟩
      isplitl [H2]; · iexact H2
      isplitl [H3]; · iexact H3
      isplitl [H4]; · iexact H4
      isplitl [H5]; · iexact H5
      isplitl [H6]; · iexact H6
      isplitl [H7]; · iexact H7
      isplitr [H10]
      · rw [pb_succ]
        iexists _; isplitl [HW]; · iexact HW
        ipureintro; rw [hf, ← View.writes_append]
      · iexact H10

end Loop

end Cert.Proof.Kernel

end
-- ==== Proof.KernelBody.lean ====
/- One grid step of the kernel, run on its nine staging buffers and its scale scratch: the inputs come back as they were,
   and the result block is overwritten by a list of pieces that is a function of the inputs alone. -/
module

public import proofs.«01_k».proof.Proof.KernelLoop

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- One grid step: from the inputs at their contents, the result block at `f9` and the scratch at anything, the body
    hands the inputs back, the result block under the pieces found by the run, and the scratch at something. -/
@[irreducible] def bodyRun (c : Dev nD) (i : grid0.Coords)
  (arg1 : Memref sig .tc .smem S1x1 .f32) (harg1 : arg1.IsWhole)
  (arg2 : Memref sig .tc .vmem S8x5120 .bf16) (harg2 : arg2.IsWhole)
  (arg3 : Memref sig .tc .vmem S1280x2560 .i8) (harg3 : arg3.IsWhole)
  (arg4 : Memref sig .tc .vmem S1280x80 .i8) (harg4 : arg4.IsWhole)
  (arg5 : Memref sig .tc .vmem S75x128 .f32) (harg5 : arg5.IsWhole)
  (arg6 : Memref sig .tc .vmem S32x128 .i32) (harg6 : arg6.IsWhole)
  (arg7 : Memref sig .tc .vmem S2x128 .i32) (harg7 : arg7.IsWhole)
  (arg8 : Memref sig .tc .vmem S64x128 .i8) (harg8 : arg8.IsWhole)
  (arg9 : Memref sig .tc .vmem S8x1280 .bf16) (harg9 : arg9.IsWhole)
  (arg10 : Memref sig .tc .vmem S2x2x40x128 .i32) (harg10 : arg10.IsWhole)
  (x1 : Vec F S1x1 .f32)
  (x2 : Vec F S8x5120 .bf16)
  (x3 : Vec F S1280x2560 .i8)
  (x4 : Vec F S1280x80 .i8)
  (x5 : Vec F S75x128 .f32)
  (x6 : Vec F S32x128 .i32)
  (x7 : Vec F S2x128 .i32)
  (x8 : Vec F S64x128 .i8) :
    { L : List (View.Piece (Elt F) S8x1280 .bf16) // ∀ (f9 : BufTy.Contents (Elt F) arg9.view.ty) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (arg9.view.loc (c : Thread nD τ) ↦[arg9.view.set]{fullShare} f9)
        ∗ (∃ f10, (arg10.view.loc (c : Thread nD τ) ↦[arg10.view.set]{fullShare} f10))
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (arg9.view.loc (c : Thread nD τ) ↦[arg9.view.set]{fullShare} arg9.view.writes (Elt F) f9 L)
            ∗ (∃ f10, (arg10.view.loc (c : Thread nD τ) ↦[arg10.view.set]{fullShare} f10))) -∗ K ⟨⟩))
      ⊢ wp frame (wpE (defs₀ (F := F)) Variants.none (c : Thread nD τ) none) Set.univ
          (cc0_nf4_linear (F := F) i arg1 harg1 arg2 harg2 arg3 harg3 arg4 harg4 arg5 harg5 arg6 harg6 arg7 harg7 arg8 harg8 arg9 harg9 arg10 harg10) K } := by
  refine ⟨?_, fun f9 K => ?run⟩
  case run =>
    simp only [cc0_nf4_linear_eq_skeleton]; unfold cc0_nf4_linear_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, ⟨%f10, H10⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    iexists _; iexact H10

end Cert.Proof.Kernel

end
-- ==== Proof.KernelFrame.lean ====
/- The nine-window pipeline around the kernel's grid step: what each staging buffer holds when the step runs, and the frame:
   the program ends with its arguments unchanged and every semaphore at zero.

   Windows 2 (packed weights), 3 (codes) and 8 (result) overhang their arrays at the last grid step, so their staging
   buffers hold unknown rows there; every other window tiles its array. -/
module

public import proofs.«01_k».proof.Proof.KernelBody

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A filler for the rows of the weight window outside its array. -/
def dflt2 : win0_2.block.Idx → Elt F win0_2.elt := fun _ => Classical.choice inferInstance
/-- A filler for the rows of the code window outside its array. -/
def dflt3 : win0_3.block.Idx → Elt F win0_3.elt := fun _ => Classical.choice inferInstance

/-- The weight window's buffer at point `t`: its block, over `d` outside the array. -/
def X2 (c : Dev nD) (t : Fin cfg0.N) (d : win0_2.block.Idx → Elt F win0_2.elt) : win0_2.block.Idx → Elt F win0_2.elt :=
  win0_2.fill (grid0.coords t) d (iblk m c 2 t)
/-- The code window's buffer at point `t`: its block, over `d` outside the array. -/
def X3 (c : Dev nD) (t : Fin cfg0.N) (d : win0_3.block.Idx → Elt F win0_3.elt) : win0_3.block.Idx → Elt F win0_3.elt :=
  win0_3.fill (grid0.coords t) d (iblk m c 3 t)

variable (o : Dev nD → Fin cfg0.N → win0_8.block.Idx → Elt F win0_8.elt)

/-- The pipeline's proof data on core `c`: every array as the region finds it, every input buffer left at its block, the
    result buffer at `o c t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X2 m c t dflt2
    | ⟨3, _⟩ => X3 m c t dflt3
    | ⟨4, _⟩ => iblk m c 4 t
    | ⟨5, _⟩ => iblk m c 5 t
    | ⟨6, _⟩ => iblk m c 6 t
    | ⟨7, _⟩ => iblk m c 7 t
    | ⟨8, _⟩ => o c t
  Φ _ := Pipeline.ΦA spec0 c
  q _ := fullShare
  owed _ := 0

/-- The array of a window is the one at the launch. -/
theorem A_eq (c : Dev nD) (w : Fin cfg0.W) : (dats m o 0 c).A w = V m c (Pipeline.arrRef spec0 w) := by
  dsimp only [dats]

/-- What window 0 holds after the step at a point. -/
theorem after0_0 (c : Dev nD) (t : Fin cfg0.N) : (dats m o 0 c).after 0 t = iblk m c 0 t := by dsimp only [dats]
/-- What window 1 holds after the step at a point. -/
theorem after0_1 (c : Dev nD) (t : Fin cfg0.N) : (dats m o 0 c).after 1 t = iblk m c 1 t := by dsimp only [dats]
/-- What window 2 holds after the step at a point. -/
theorem after0_2 (c : Dev nD) (t : Fin cfg0.N) : (dats m o 0 c).after 2 t = X2 m c t dflt2 := by dsimp only [dats]
/-- What window 3 holds after the step at a point. -/
theorem after0_3 (c : Dev nD) (t : Fin cfg0.N) : (dats m o 0 c).after 3 t = X3 m c t dflt3 := by dsimp only [dats]
/-- What window 4 holds after the step at a point. -/
theorem after0_4 (c : Dev nD) (t : Fin cfg0.N) : (dats m o 0 c).after 4 t = iblk m c 4 t := by dsimp only [dats]
/-- What window 5 holds after the step at a point. -/
theorem after0_5 (c : Dev nD) (t : Fin cfg0.N) : (dats m o 0 c).after 5 t = iblk m c 5 t := by dsimp only [dats]
/-- What window 6 holds after the step at a point. -/
theorem after0_6 (c : Dev nD) (t : Fin cfg0.N) : (dats m o 0 c).after 6 t = iblk m c 6 t := by dsimp only [dats]
/-- What window 7 holds after the step at a point. -/
theorem after0_7 (c : Dev nD) (t : Fin cfg0.N) : (dats m o 0 c).after 7 t = iblk m c 7 t := by dsimp only [dats]
/-- What window 8 holds after the step at a point. -/
theorem after0_8 (c : Dev nD) (t : Fin cfg0.N) : (dats m o 0 c).after 8 t = o c t := by dsimp only [dats]

/-- What window 0 holds before the step at a point. -/
theorem before0_0 (c : Dev nD) (t : Fin cfg0.N) (d) : (dats m o 0 c).before 0 t d = iblk m c 0 t :=
  before0_0_of m (dats m o 0 c) (A_eq m o c 0) (after0_0 m o c) t d
/-- What window 1 holds before the step at a point. -/
theorem before0_1 (c : Dev nD) (t : Fin cfg0.N) (d) : (dats m o 0 c).before 1 t d = iblk m c 1 t :=
  before0_1_of m (dats m o 0 c) (A_eq m o c 1) (after0_1 m o c) t d
/-- What window 2 holds before the step at a point. -/
theorem before0_2 (c : Dev nD) (t : Fin cfg0.N) (d) : (dats m o 0 c).before 2 t d = X2 m c t d := by
  unfold Dat.before; rw [if_pos (fetch0_2 t)]; rfl
/-- What window 3 holds before the step at a point. -/
theorem before0_3 (c : Dev nD) (t : Fin cfg0.N) (d) : (dats m o 0 c).before 3 t d = X3 m c t d := by
  unfold Dat.before; rw [if_pos (fetch0_3 t)]; rfl
/-- What window 4 holds before the step at a point. -/
theorem before0_4 (c : Dev nD) (t : Fin cfg0.N) (d) : (dats m o 0 c).before 4 t d = iblk m c 4 t :=
  before0_4_of m (dats m o 0 c) (A_eq m o c 4) (after0_4 m o c) t d
/-- What window 5 holds before the step at a point. -/
theorem before0_5 (c : Dev nD) (t : Fin cfg0.N) (d) : (dats m o 0 c).before 5 t d = iblk m c 5 t :=
  before0_5_of m (dats m o 0 c) (A_eq m o c 5) (after0_5 m o c) t d
/-- What window 6 holds before the step at a point. -/
theorem before0_6 (c : Dev nD) (t : Fin cfg0.N) (d) : (dats m o 0 c).before 6 t d = iblk m c 6 t :=
  before0_6_of m (dats m o 0 c) (A_eq m o c 6) (after0_6 m o c) t d
/-- What window 7 holds before the step at a point. -/
theorem before0_7 (c : Dev nD) (t : Fin cfg0.N) (d) : (dats m o 0 c).before 7 t d = iblk m c 7 t :=
  before0_7_of m (dats m o 0 c) (A_eq m o c 7) (after0_7 m o c) t d

/-- The pieces the step at point `t` writes, the weight and code buffers holding `d2` and `d3` outside their arrays. -/
def pieces (c : Dev nD) (t : Fin cfg0.N) (d2 : win0_2.block.Idx → Elt F win0_2.elt) (d3 : win0_3.block.Idx → Elt F win0_3.elt) :
    List (View.Piece (Elt F) S8x1280 .bf16) :=
  (bodyRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole cc0_scratch0)
    (iblk m c 0 t) (iblk m c 1 t) (X2 m c t d2) (X3 m c t d3) (iblk m c 4 t) (iblk m c 5 t) (iblk m c 6 t) (iblk m c 7 t)).1

/-- The step at point `t`: the input buffers as fetched, handed back; the result buffer left under the step's pieces. -/
theorem step_at (c : Dev nD) (t : Fin cfg0.N) (d2 : win0_2.block.Idx → Elt F win0_2.elt)
    (d3 : win0_3.block.Idx → Elt F win0_3.elt) (K : PUnit → sProp 𝕄) :
    iprop(Pipeline.ΦA spec0 c
        ∗ owns (c : Thread nD τ) (st0_0 t) fullShare (iblk m c 0 t) ∗ owns (c : Thread nD τ) (st0_1 t) fullShare (iblk m c 1 t)
        ∗ owns (c : Thread nD τ) (st0_2 t) fullShare (X2 m c t d2) ∗ owns (c : Thread nD τ) (st0_3 t) fullShare (X3 m c t d3)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare (iblk m c 7 t)
        ∗ (∃ d, owns (c : Thread nD τ) (st0_8 t) fullShare d)
        ∗ (iprop(Pipeline.ΦA spec0 c
            ∗ owns (c : Thread nD τ) (st0_0 t) fullShare (iblk m c 0 t) ∗ owns (c : Thread nD τ) (st0_1 t) fullShare (iblk m c 1 t)
            ∗ owns (c : Thread nD τ) (st0_2 t) fullShare (X2 m c t d2) ∗ owns (c : Thread nD τ) (st0_3 t) fullShare (X3 m c t d3)
            ∗ owns (c : Thread nD τ) (st0_4 t) fullShare (iblk m c 4 t) ∗ owns (c : Thread nD τ) (st0_5 t) fullShare (iblk m c 5 t)
            ∗ owns (c : Thread nD τ) (st0_6 t) fullShare (iblk m c 6 t) ∗ owns (c : Thread nD τ) (st0_7 t) fullShare (iblk m c 7 t)
            ∗ (∃ f9, owns (c : Thread nD τ) (st0_8 t) fullShare
                ((st0_8 t).view.read (Elt F) ((st0_8 t).view.writes (Elt F) f9 (pieces m c t d2 d3))))) -∗ K ⟨⟩))
      ⊢ wp frame (wpE (defs₀ (F := F)) Variants.none (c : Thread nD τ) none) Set.univ (bodyAt0 t) K := by
  unfold Pipeline.ΦA
  rw [scopedRest0_eq]
  have hS : ∀ f : Buf (Elt F) ((c : Thread nD τ).loc cc0_scratch0),
      ((((c : Thread nD τ).loc cc0_scratch0) ↦{fullShare} f) : sProp 𝕄)
        = ((Memref.whole cc0_scratch0).view.loc (c : Thread nD τ) ↦[(Memref.whole cc0_scratch0).view.set]{fullShare} f) := fun f => by
    simp only [Memref.view_whole, View.set_whole]
  simp only [hS]
  have h8 : ∀ d8, (owns (c : Thread nD τ) (st0_8 t) fullShare d8 : sProp 𝕄)
      = iprop(∃ f, ⌜(st0_8 t).view.read (Elt F) f = d8⌝ ∗ ((st0_8 t).view.loc (c : Thread nD τ) ↦[(st0_8 t).view.set]{fullShare} f)) :=
    fun _ => rfl
  simp only [h8]
  iintro ⟨⟨⟨%f10, HS⟩, Hρ⟩, H0, H1, H2, H3, H4, H5, H6, H7, ⟨%d8, %f9, -, H8⟩, Hk⟩
  iapply ((bodyRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole cc0_scratch0)
    (iblk m c 0 t) (iblk m c 1 t) (X2 m c t d2) (X3 m c t d3) (iblk m c 4 t) (iblk m c 5 t) (iblk m c 6 t) (iblk m c 7 t)).2 f9 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]
  · iexists f10; iexact HS
  iintro ⟨H0, H1, H2, H3, H4, H5, H6, H7, H8, ⟨%g10, HS⟩⟩
  iapply Hk
  isplitl [HS Hρ]
  · isplitl [HS]
    · iexists g10; iexact HS
    · iexact Hρ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists f9
  iexists _; isplitr; swap; · iexact H8
  ipureintro; unfold pieces; rfl

/-! ### The body obligation and the run, nothing said of the result -/

/-- The result window is forgotten. -/
def forgets0 : Fin 9 → Bool := fun w => w.val == 8

/-- The function the pipeline calls at a point is the kernel's step there. -/
theorem defs₀_row (t : Fin cfg0.N) :
    (defs₀ (F := F)) .tc cfg0.body (cfg0.bodyArgs t (cfg0.slots t)) = bodyAt0 t := by
  unfold defs₀; rw [Defs.onTc_tc]

/-- Inside the array the weight buffer holds the weight block. -/
theorem cut_X2 (c : Dev nD) (t : Fin cfg0.N) (d) : win0_2.cut (grid0.coords t) (X2 m c t d) = iblk m c 2 t :=
  win0_2.cut_fill _ _ _
/-- Inside the array the code buffer holds the code block. -/
theorem cut_X3 (c : Dev nD) (t : Fin cfg0.N) (d) : win0_3.cut (grid0.coords t) (X3 m c t d) = iblk m c 3 t :=
  win0_3.cut_fill _ _ _

/-- The step keeps the pipeline's contract, the result window's contents unnamed. -/
theorem body_obligation_forget (c : Dev nD) :
    BodyObligationLoose (dats m o 0 c) (defs₀ (F := F)) Variants.none () Set.univ forgets0 := fun t => by
  rw [bigSep_W0, bigSep_W0, defs₀_row]
  rw [show (dats m o 0 c).Φ t.succ = (Pipeline.ΦA spec0 c) from rfl, show (dats m o 0 c).Φ t.castSucc = (Pipeline.ΦA spec0 c) from rfl,
    show (dats m o 0 c).owesAt () t.succ = (dats m o 0 c).owesAt () t.castSucc from rfl]
  refine triple_restated (W := wp frame (wpE (defs₀ (F := F)) Variants.none (c : Thread nD τ) none) Set.univ (bodyAt0 t))
    (P := iprop(Pipeline.ΦA spec0 c ∗ (dats m o 0 c).owesAt () t.castSucc
        ∗ (∃ d, owns (c : Thread nD τ) (st0_0 t) fullShare ((dats m o 0 c).before 0 t d))
        ∗ (∃ d, owns (c : Thread nD τ) (st0_1 t) fullShare ((dats m o 0 c).before 1 t d))
        ∗ (∃ d, owns (c : Thread nD τ) (st0_2 t) fullShare ((dats m o 0 c).before 2 t d))
        ∗ (∃ d, owns (c : Thread nD τ) (st0_3 t) fullShare ((dats m o 0 c).before 3 t d))
        ∗ (∃ d, owns (c : Thread nD τ) (st0_4 t) fullShare ((dats m o 0 c).before 4 t d))
        ∗ (∃ d, owns (c : Thread nD τ) (st0_5 t) fullShare ((dats m o 0 c).before 5 t d))
        ∗ (∃ d, owns (c : Thread nD τ) (st0_6 t) fullShare ((dats m o 0 c).before 6 t d))
        ∗ (∃ d, owns (c : Thread nD τ) (st0_7 t) fullShare ((dats m o 0 c).before 7 t d))
        ∗ (∃ d, owns (c : Thread nD τ) (st0_8 t) fullShare d)))
    (Q := fun _ => iprop(Pipeline.ΦA spec0 c ∗ (dats m o 0 c).owesAt () t.castSucc
        ∗ owns (c : Thread nD τ) (st0_0 t) fullShare ((dats m o 0 c).after 0 t)
        ∗ owns (c : Thread nD τ) (st0_1 t) fullShare ((dats m o 0 c).after 1 t)
        ∗ (∃ d, owns (c : Thread nD τ) (st0_2 t) fullShare (win0_2.fill (grid0.coords t) d (win0_2.cut (grid0.coords t) ((dats m o 0 c).after 2 t))))
        ∗ (∃ d, owns (c : Thread nD τ) (st0_3 t) fullShare (win0_3.fill (grid0.coords t) d (win0_3.cut (grid0.coords t) ((dats m o 0 c).after 3 t))))
        ∗ owns (c : Thread nD τ) (st0_4 t) fullShare ((dats m o 0 c).after 4 t)
        ∗ owns (c : Thread nD τ) (st0_5 t) fullShare ((dats m o 0 c).after 5 t)
        ∗ owns (c : Thread nD τ) (st0_6 t) fullShare ((dats m o 0 c).after 6 t)
        ∗ owns (c : Thread nD τ) (st0_7 t) fullShare ((dats m o 0 c).after 7 t)
        ∗ (∃ d, owns (c : Thread nD τ) (st0_8 t) fullShare d))) ?_ rfl .rfl fun _ => .rfl
  simp only [before0_0, before0_1, before0_2, before0_3, before0_4, before0_5, before0_6, before0_7, after0_0, after0_1, after0_2,
    after0_3, after0_4, after0_5, after0_6, after0_7, cut_X2, cut_X3]
  iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, H8⟩
  iapply (step_at m c t e2 e3 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨HΦ, H0, H1, H2, H3, H4, H5, H6, H7, ⟨%f9, H8⟩⟩
  isplitl [HΦ]; · iexact HΦ
  isplitl [Ho]; · iexact Ho
  isplitl [H0]; · iexact H0
  isplitl [H1]; · iexact H1
  isplitl [H2]
  · iexists e2
    rw [show win0_2.fill (grid0.coords t) e2 (win0_2.cut (grid0.coords t) (X2 m c t dflt2)) = X2 m c t e2 from by
      rw [cut_X2]; rfl]
    iexact H2
  isplitl [H3]
  · iexists e3
    rw [show win0_3.fill (grid0.coords t) e3 (win0_3.cut (grid0.coords t) (X3 m c t dflt3)) = X3 m c t e3 from by
      rw [cut_X3]; rfl]
    iexact H3
  isplitl [H4]; · iexact H4
  isplitl [H5]; · iexact H5
  isplitl [H6]; · iexact H6
  isplitl [H7]; · iexact H7
  iexists _; iexact H8

/-- Every run ends with the input windows' arrays unchanged, every other buffer as the region found it, and every
    semaphore at zero. -/
theorem run_forget : θ_run (defs (F := F)) (onTc (τ := τ) (main (F := F))) (s₀ m ρ)
    (fun r => Pipeline.RDat.FramePost (cfgs 0) (fun c => (dats m o 0 c).toRForget forgets0) (V m) r ∧ r.2.sem = fun _ => 0) :=
  Pipeline.θ_run_frame_forget (Q' := _) cfgs (dats m o) (0 : Fin 1) launch0 defs₀ Variants.none forgets0 m ρ main
    (hbody := fun c => body_obligation_forget m o c) (hshare := fun c => (dats m o 0 c).share_full fun _ => rfl)
    (howed := fun _ _ => rfl) (V := V m) (hmain := hmain m Variants.none) (hA := A_eq m o) (hΦ := fun _ _ => rfl)

/-- The frame: every argument array ends unchanged and every semaphore at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨((h c).2 main_arg0 (Pipeline.mem_restRefs_of main_arg0 (by decide) (by decide))).trans (V_main_arg0 m c),
      (Pipeline.RDat.FramePost.arr_in h c 2 rfl).trans ((A_eq m (fun _ t => Pipeline.Dat.unnamed (cfg := cfg0) 8 t) c 2).trans (V_main_arg1 m c)),
      (Pipeline.RDat.FramePost.arr_in h c 3 rfl).trans ((A_eq m (fun _ t => Pipeline.Dat.unnamed (cfg := cfg0) 8 t) c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hz⟩)
    (run_forget m ρ (fun _ t => Pipeline.Dat.unnamed (cfg := cfg0) 8 t))

end Cert.Proof.Kernel

end
-- ==== Proof.IdealLoop.lean ====
/- The group loop of the kernel: what one trip does to the buffers, and the invariant over the five trips.

   One trip handles 256 output columns. It reads the input, the packed weights, the codes, the scale table and the two
   small index tables; it fills the scale scratch; and it writes two pieces of the result block. -/
module

public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.WordCmp

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Loop

variable (c : Dev nD) (i : grid0.Coords)
  (arg1 : Memref sig .tc .smem S1x1 .f32) (harg1 : arg1.IsWhole)
  (arg2 : Memref sig .tc .vmem S8x5120 .bf16) (harg2 : arg2.IsWhole)
  (arg3 : Memref sig .tc .vmem S1280x2560 .i8) (harg3 : arg3.IsWhole)
  (arg4 : Memref sig .tc .vmem S1280x80 .i8) (harg4 : arg4.IsWhole)
  (arg5 : Memref sig .tc .vmem S75x128 .f32) (harg5 : arg5.IsWhole)
  (arg6 : Memref sig .tc .vmem S32x128 .i32) (harg6 : arg6.IsWhole)
  (arg7 : Memref sig .tc .vmem S2x128 .i32) (harg7 : arg7.IsWhole)
  (arg8 : Memref sig .tc .vmem S64x128 .i8) (harg8 : arg8.IsWhole)
  (arg9 : Memref sig .tc .vmem S8x1280 .bf16) (harg9 : arg9.IsWhole)
  (arg10 : Memref sig .tc .vmem S2x2x40x2x128 .bf16) (harg10 : arg10.IsWhole)
  (arg0 : BitVec 32)
  (v0 : Elt F .f32) (v1 : Vec F S32x128 .i8) (v2 : Vec F S32x128 .i8) (v8 : IVec S8x128 32)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)

/-- The six buffers a trip only reads, each at its contents. -/
abbrev Held : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7))

/-- What one trip holds: the six read buffers, the result block at `f9`, the scale scratch at some contents. -/
abbrev Trip (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (arg9.view.loc (c : Thread nD τ) ↦[arg9.view.set]{fullShare} f9)
    ∗ (∃ f10, (arg10.view.loc (c : Thread nD τ) ↦[arg10.view.set]{fullShare} f10)))

/-- One trip at a symbolic group `k`: the pieces it writes over the result block, found by running it. -/
@[irreducible] def trip (k : Fin k0_t1_loop.trips) :
    { L : List (View.Piece (Elt F) S8x1280 .bf16) // ∀ (f9 : BufTy.Contents (Elt F) arg9.view.ty),
      Trip (F := F) c arg2 arg3 arg4 arg5 arg6 arg7 arg9 arg10 X2 X3 X4 X5 X6 X7 f9
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg0 v0 v1 v2 v8 k ())
          (fun _ => Trip (F := F) c arg2 arg3 arg4 arg5 arg6 arg7 arg9 arg10 X2 X3 X4 X5 X6 X7 (arg9.view.writes (Elt F) f9 L)) } := by
  have hk : k.val < 5 := Nat.lt_of_lt_of_le k.isLt k0_t1_abs.2.1
  refine ⟨?_, fun f9 => ?run⟩
  case run =>
    unfold k0_t1_body
    iintro ⟨H2, H3, H4, H5, H6, H7, H9, ⟨%f10, H10⟩⟩
    sl_exec
    sl_step
    sl_close

/-- The pieces of one trip. -/
abbrev tripL (k : Fin k0_t1_loop.trips) : List (View.Piece (Elt F) S8x1280 .bf16) :=
  (trip (F := F) c i arg1 harg1 arg2 harg2 arg3 harg3 arg4 harg4 arg5 harg5 arg6 harg6 arg7 harg7 arg8 harg8 arg9 harg9 arg10 harg10 arg0 v0 v1 v2 v8 X2 X3 X4 X5 X6 X7 k).1

/-- The pieces after trip `k`, given those before it. -/
@[irreducible] def pbStep (k : ℕ) (prev : List (View.Piece (Elt F) S8x1280 .bf16)) :
    List (View.Piece (Elt F) S8x1280 .bf16) :=
  if h : k < k0_t1_loop.trips then tripL (F := F) c i arg1 harg1 arg2 harg2 arg3 harg3 arg4 harg4 arg5 harg5 arg6 harg6 arg7 harg7 arg8 harg8 arg9 harg9 arg10 harg10 arg0 v0 v1 v2 v8 X2 X3 X4 X5 X6 X7 ⟨k, h⟩ ++ prev else prev

/-- All the pieces written before trip `k`, newest first. -/
def pb : ℕ → List (View.Piece (Elt F) S8x1280 .bf16)
  | 0 => []
  | k + 1 => pbStep (F := F) c i arg1 harg1 arg2 harg2 arg3 harg3 arg4 harg4 arg5 harg5 arg6 harg6 arg7 harg7 arg8 harg8 arg9 harg9 arg10 harg10 arg0 v0 v1 v2 v8 X2 X3 X4 X5 X6 X7 k (pb k)

/-- The pieces written after one more trip are that trip's above the ones before. -/
theorem pb_succ (k : Fin k0_t1_loop.trips) :
    pb (F := F) c i arg1 harg1 arg2 harg2 arg3 harg3 arg4 harg4 arg5 harg5 arg6 harg6 arg7 harg7 arg8 harg8 arg9 harg9 arg10 harg10 arg0 v0 v1 v2 v8 X2 X3 X4 X5 X6 X7 (k.val + 1)
      = tripL (F := F) c i arg1 harg1 arg2 harg2 arg3 harg3 arg4 harg4 arg5 harg5 arg6 harg6 arg7 harg7 arg8 harg8 arg9 harg9 arg10 harg10 arg0 v0 v1 v2 v8 X2 X3 X4 X5 X6 X7 k
        ++ pb (F := F) c i arg1 harg1 arg2 harg2 arg3 harg3 arg4 harg4 arg5 harg5 arg6 harg6 arg7 harg7 arg8 harg8 arg9 harg9 arg10 harg10 arg0 v0 v1 v2 v8 X2 X3 X4 X5 X6 X7 k.val := by
  rw [pb.eq_2]; unfold pbStep; exact dif_pos k.isLt

/-- The invariant before trip `k`: the six read buffers, the result block under the pieces so far, the scratch. -/
abbrev inv (G9 : BufTy.Contents (Elt F) arg9.view.ty) (k : ℕ) (_u : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg9.view.loc (c : Thread nD τ) ↦[arg9.view.set]{fullShare} f)
        ∗ ⌜f = arg9.view.writes (Elt F) G9 (pb (F := F) c i arg1 harg1 arg2 harg2 arg3 harg3 arg4 harg4 arg5 harg5 arg6 harg6 arg7 harg7 arg8 harg8 arg9 harg9 arg10 harg10 arg0 v0 v1 v2 v8 X2 X3 X4 X5 X6 X7 k)⌝)
    ∗ (∃ f10, (arg10.view.loc (c : Thread nD τ) ↦[arg10.view.set]{fullShare} f10)))

set_option warn.classDefReducibility false in
/-- The group loop by its invariant. -/
@[sl_loop] def loopInv_k0_t1 (G9 : BufTy.Contents (Elt F) arg9.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg0 v0 v1 v2 v8 where
  inv := inv (F := F) c i arg1 harg1 arg2 harg2 arg3 harg3 arg4 harg4 arg5 harg5 arg6 harg6 arg7 harg7 arg8 harg8 arg9 harg9 arg10 harg10 arg0 v0 v1 v2 v8 X2 X3 X4 X5 X6 X7 G9
  step k acc := by
    iintro ⟨H2, H3, H4, H5, H6, H7, ⟨%f, HW, %hf⟩, H10⟩
    iapply (wp_wand_r Idealize.ShloMosaic.frame (wpE (defs₀ (F := F)) Variants.none (c : Thread nD τ) none) Set.univ)
    isplitl [H2 H3 H4 H5 H6 H7 HW H10]
    · iapply ((trip (F := F) c i arg1 harg1 arg2 harg2 arg3 harg3 arg4 harg4 arg5 harg5 arg6 harg6 arg7 harg7 arg8 harg8 arg9 harg9 arg10 harg10 arg0 v0 v1 v2 v8 X2 X3 X4 X5 X6 X7 k).2 f)
      isplitl [H2]; · iexact H2
      isplitl [H3]; · iexact H3
      isplitl [H4]; · iexact H4
      isplitl [H5]; · iexact H5
      isplitl [H6]; · iexact H6
      isplitl [H7]; · iexact H7
      isplitl [HW]; · iexact HW
      iexact H10
    · iintro %_ ⟨H2, H3, H4, H5, H6, H7, HW, H10⟩
      isplitl [H2]; · iexact H2
      isplitl [H3]; · iexact H3
      isplitl [H4]; · iexact H4
      isplitl [H5]; · iexact H5
      isplitl [H6]; · iexact H6
      isplitl [H7]; · iexact H7
      isplitr [H10]
      · rw [pb_succ]
        iexists _; isplitl [HW]; · iexact HW
        ipureintro; rw [hf, ← View.writes_append]
      · iexact H10

end Loop

end Cert.Proof.KernelIdeal

end
-- ==== Proof.IdealBody.lean ====
/- One grid step of the kernel, run on its nine staging buffers and its scale scratch: the inputs come back as they were,
   and the result block is overwritten by a list of pieces that is a function of the inputs alone. -/
module

public import proofs.«01_k».proof.Proof.IdealLoop

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One grid step: from the inputs at their contents, the result block at `f9` and the scratch at anything, the body
    hands the inputs back, the result block under the pieces found by the run, and the scratch at something. -/
@[irreducible] def bodyRun (c : Dev nD) (i : grid0.Coords)
  (arg1 : Memref sig .tc .smem S1x1 .f32) (harg1 : arg1.IsWhole)
  (arg2 : Memref sig .tc .vmem S8x5120 .bf16) (harg2 : arg2.IsWhole)
  (arg3 : Memref sig .tc .vmem S1280x2560 .i8) (harg3 : arg3.IsWhole)
  (arg4 : Memref sig .tc .vmem S1280x80 .i8) (harg4 : arg4.IsWhole)
  (arg5 : Memref sig .tc .vmem S75x128 .f32) (harg5 : arg5.IsWhole)
  (arg6 : Memref sig .tc .vmem S32x128 .i32) (harg6 : arg6.IsWhole)
  (arg7 : Memref sig .tc .vmem S2x128 .i32) (harg7 : arg7.IsWhole)
  (arg8 : Memref sig .tc .vmem S64x128 .i8) (harg8 : arg8.IsWhole)
  (arg9 : Memref sig .tc .vmem S8x1280 .bf16) (harg9 : arg9.IsWhole)
  (arg10 : Memref sig .tc .vmem S2x2x40x2x128 .bf16) (harg10 : arg10.IsWhole)
  (x1 : Vec F S1x1 .f32)
  (x2 : Vec F S8x5120 .bf16)
  (x3 : Vec F S1280x2560 .i8)
  (x4 : Vec F S1280x80 .i8)
  (x5 : Vec F S75x128 .f32)
  (x6 : Vec F S32x128 .i32)
  (x7 : Vec F S2x128 .i32)
  (x8 : Vec F S64x128 .i8) :
    { L : List (View.Piece (Elt F) S8x1280 .bf16) // ∀ (f9 : BufTy.Contents (Elt F) arg9.view.ty) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (arg9.view.loc (c : Thread nD τ) ↦[arg9.view.set]{fullShare} f9)
        ∗ (∃ f10, (arg10.view.loc (c : Thread nD τ) ↦[arg10.view.set]{fullShare} f10))
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (arg9.view.loc (c : Thread nD τ) ↦[arg9.view.set]{fullShare} arg9.view.writes (Elt F) f9 L)
            ∗ (∃ f10, (arg10.view.loc (c : Thread nD τ) ↦[arg10.view.set]{fullShare} f10))) -∗ K ⟨⟩))
      ⊢ wp frame (wpE (defs₀ (F := F)) Variants.none (c : Thread nD τ) none) Set.univ
          (cc0_nf4_linear (F := F) i arg1 harg1 arg2 harg2 arg3 harg3 arg4 harg4 arg5 harg5 arg6 harg6 arg7 harg7 arg8 harg8 arg9 harg9 arg10 harg10) K } := by
  refine ⟨?_, fun f9 K => ?run⟩
  case run =>
    simp only [cc0_nf4_linear_eq_skeleton]; unfold cc0_nf4_linear_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, ⟨%f10, H10⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    iexists _; iexact H10

end Cert.Proof.KernelIdeal

end
-- ==== Proof.IdealFrame.lean ====
/- The nine-window pipeline around the kernel's grid step: what each staging buffer holds when the step runs, and the frame:
   the program ends with its arguments unchanged and every semaphore at zero.

   Windows 2 (packed weights), 3 (codes) and 8 (result) overhang their arrays at the last grid step, so their staging
   buffers hold unknown rows there; every other window tiles its array. -/
module

public import proofs.«01_k».proof.Proof.IdealBody

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A filler for the rows of the weight window outside its array. -/
def dflt2 : win0_2.block.Idx → Elt F win0_2.elt := fun _ => Classical.choice inferInstance
/-- A filler for the rows of the code window outside its array. -/
def dflt3 : win0_3.block.Idx → Elt F win0_3.elt := fun _ => Classical.choice inferInstance

/-- The weight window's buffer at point `t`: its block, over `d` outside the array. -/
def X2 (c : Dev nD) (t : Fin cfg0.N) (d : win0_2.block.Idx → Elt F win0_2.elt) : win0_2.block.Idx → Elt F win0_2.elt :=
  win0_2.fill (grid0.coords t) d (iblk m c 2 t)
/-- The code window's buffer at point `t`: its block, over `d` outside the array. -/
def X3 (c : Dev nD) (t : Fin cfg0.N) (d : win0_3.block.Idx → Elt F win0_3.elt) : win0_3.block.Idx → Elt F win0_3.elt :=
  win0_3.fill (grid0.coords t) d (iblk m c 3 t)

variable (o : Dev nD → Fin cfg0.N → win0_8.block.Idx → Elt F win0_8.elt)

/-- The pipeline's proof data on core `c`: every array as the region finds it, every input buffer left at its block, the
    result buffer at `o c t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X2 m c t dflt2
    | ⟨3, _⟩ => X3 m c t dflt3
    | ⟨4, _⟩ => iblk m c 4 t
    | ⟨5, _⟩ => iblk m c 5 t
    | ⟨6, _⟩ => iblk m c 6 t
    | ⟨7, _⟩ => iblk m c 7 t
    | ⟨8, _⟩ => o c t
  Φ _ := Pipeline.ΦA spec0 c
  q _ := fullShare
  owed _ := 0

/-- The array of a window is the one at the launch. -/
theorem A_eq (c : Dev nD) (w : Fin cfg0.W) : (dats m o 0 c).A w = V m c (Pipeline.arrRef spec0 w) := by
  dsimp only [dats]

/-- What window 0 holds after the step at a point. -/
theorem after0_0 (c : Dev nD) (t : Fin cfg0.N) : (dats m o 0 c).after 0 t = iblk m c 0 t := by dsimp only [dats]
/-- What window 1 holds after the step at a point. -/
theorem after0_1 (c : Dev nD) (t : Fin cfg0.N) : (dats m o 0 c).after 1 t = iblk m c 1 t := by dsimp only [dats]
/-- What window 2 holds after the step at a point. -/
theorem after0_2 (c : Dev nD) (t : Fin cfg0.N) : (dats m o 0 c).after 2 t = X2 m c t dflt2 := by dsimp only [dats]
/-- What window 3 holds after the step at a point. -/
theorem after0_3 (c : Dev nD) (t : Fin cfg0.N) : (dats m o 0 c).after 3 t = X3 m c t dflt3 := by dsimp only [dats]
/-- What window 4 holds after the step at a point. -/
theorem after0_4 (c : Dev nD) (t : Fin cfg0.N) : (dats m o 0 c).after 4 t = iblk m c 4 t := by dsimp only [dats]
/-- What window 5 holds after the step at a point. -/
theorem after0_5 (c : Dev nD) (t : Fin cfg0.N) : (dats m o 0 c).after 5 t = iblk m c 5 t := by dsimp only [dats]
/-- What window 6 holds after the step at a point. -/
theorem after0_6 (c : Dev nD) (t : Fin cfg0.N) : (dats m o 0 c).after 6 t = iblk m c 6 t := by dsimp only [dats]
/-- What window 7 holds after the step at a point. -/
theorem after0_7 (c : Dev nD) (t : Fin cfg0.N) : (dats m o 0 c).after 7 t = iblk m c 7 t := by dsimp only [dats]
/-- What window 8 holds after the step at a point. -/
theorem after0_8 (c : Dev nD) (t : Fin cfg0.N) : (dats m o 0 c).after 8 t = o c t := by dsimp only [dats]

/-- What window 0 holds before the step at a point. -/
theorem before0_0 (c : Dev nD) (t : Fin cfg0.N) (d) : (dats m o 0 c).before 0 t d = iblk m c 0 t :=
  before0_0_of m (dats m o 0 c) (A_eq m o c 0) (after0_0 m o c) t d
/-- What window 1 holds before the step at a point. -/
theorem before0_1 (c : Dev nD) (t : Fin cfg0.N) (d) : (dats m o 0 c).before 1 t d = iblk m c 1 t :=
  before0_1_of m (dats m o 0 c) (A_eq m o c 1) (after0_1 m o c) t d
/-- What window 2 holds before the step at a point. -/
theorem before0_2 (c : Dev nD) (t : Fin cfg0.N) (d) : (dats m o 0 c).before 2 t d = X2 m c t d := by
  unfold Dat.before; rw [if_pos (fetch0_2 t)]; rfl
/-- What window 3 holds before the step at a point. -/
theorem before0_3 (c : Dev nD) (t : Fin cfg0.N) (d) : (dats m o 0 c).before 3 t d = X3 m c t d := by
  unfold Dat.before; rw [if_pos (fetch0_3 t)]; rfl
/-- What window 4 holds before the step at a point. -/
theorem before0_4 (c : Dev nD) (t : Fin cfg0.N) (d) : (dats m o 0 c).before 4 t d = iblk m c 4 t :=
  before0_4_of m (dats m o 0 c) (A_eq m o c 4) (after0_4 m o c) t d
/-- What window 5 holds before the step at a point. -/
theorem before0_5 (c : Dev nD) (t : Fin cfg0.N) (d) : (dats m o 0 c).before 5 t d = iblk m c 5 t :=
  before0_5_of m (dats m o 0 c) (A_eq m o c 5) (after0_5 m o c) t d
/-- What window 6 holds before the step at a point. -/
theorem before0_6 (c : Dev nD) (t : Fin cfg0.N) (d) : (dats m o 0 c).before 6 t d = iblk m c 6 t :=
  before0_6_of m (dats m o 0 c) (A_eq m o c 6) (after0_6 m o c) t d
/-- What window 7 holds before the step at a point. -/
theorem before0_7 (c : Dev nD) (t : Fin cfg0.N) (d) : (dats m o 0 c).before 7 t d = iblk m c 7 t :=
  before0_7_of m (dats m o 0 c) (A_eq m o c 7) (after0_7 m o c) t d

/-- The pieces the step at point `t` writes, the weight and code buffers holding `d2` and `d3` outside their arrays. -/
def pieces (c : Dev nD) (t : Fin cfg0.N) (d2 : win0_2.block.Idx → Elt F win0_2.elt) (d3 : win0_3.block.Idx → Elt F win0_3.elt) :
    List (View.Piece (Elt F) S8x1280 .bf16) :=
  (bodyRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole cc0_scratch0)
    (iblk m c 0 t) (iblk m c 1 t) (X2 m c t d2) (X3 m c t d3) (iblk m c 4 t) (iblk m c 5 t) (iblk m c 6 t) (iblk m c 7 t)).1

/-- The step at point `t`: the input buffers as fetched, handed back; the result buffer left under the step's pieces. -/
theorem step_at (c : Dev nD) (t : Fin cfg0.N) (d2 : win0_2.block.Idx → Elt F win0_2.elt)
    (d3 : win0_3.block.Idx → Elt F win0_3.elt) (K : PUnit → sProp 𝕄) :
    iprop(Pipeline.ΦA spec0 c
        ∗ owns (c : Thread nD τ) (st0_0 t) fullShare (iblk m c 0 t) ∗ owns (c : Thread nD τ) (st0_1 t) fullShare (iblk m c 1 t)
        ∗ owns (c : Thread nD τ) (st0_2 t) fullShare (X2 m c t d2) ∗ owns (c : Thread nD τ) (st0_3 t) fullShare (X3 m c t d3)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare (iblk m c 7 t)
        ∗ (∃ d, owns (c : Thread nD τ) (st0_8 t) fullShare d)
        ∗ (iprop(Pipeline.ΦA spec0 c
            ∗ owns (c : Thread nD τ) (st0_0 t) fullShare (iblk m c 0 t) ∗ owns (c : Thread nD τ) (st0_1 t) fullShare (iblk m c 1 t)
            ∗ owns (c : Thread nD τ) (st0_2 t) fullShare (X2 m c t d2) ∗ owns (c : Thread nD τ) (st0_3 t) fullShare (X3 m c t d3)
            ∗ owns (c : Thread nD τ) (st0_4 t) fullShare (iblk m c 4 t) ∗ owns (c : Thread nD τ) (st0_5 t) fullShare (iblk m c 5 t)
            ∗ owns (c : Thread nD τ) (st0_6 t) fullShare (iblk m c 6 t) ∗ owns (c : Thread nD τ) (st0_7 t) fullShare (iblk m c 7 t)
            ∗ (∃ f9, owns (c : Thread nD τ) (st0_8 t) fullShare
                ((st0_8 t).view.read (Elt F) ((st0_8 t).view.writes (Elt F) f9 (pieces m c t d2 d3))))) -∗ K ⟨⟩))
      ⊢ wp frame (wpE (defs₀ (F := F)) Variants.none (c : Thread nD τ) none) Set.univ (bodyAt0 t) K := by
  unfold Pipeline.ΦA
  rw [scopedRest0_eq]
  have hS : ∀ f : Buf (Elt F) ((c : Thread nD τ).loc cc0_scratch0),
      ((((c : Thread nD τ).loc cc0_scratch0) ↦{fullShare} f) : sProp 𝕄)
        = ((Memref.whole cc0_scratch0).view.loc (c : Thread nD τ) ↦[(Memref.whole cc0_scratch0).view.set]{fullShare} f) := fun f => by
    simp only [Memref.view_whole, View.set_whole]
  simp only [hS]
  have h8 : ∀ d8, (owns (c : Thread nD τ) (st0_8 t) fullShare d8 : sProp 𝕄)
      = iprop(∃ f, ⌜(st0_8 t).view.read (Elt F) f = d8⌝ ∗ ((st0_8 t).view.loc (c : Thread nD τ) ↦[(st0_8 t).view.set]{fullShare} f)) :=
    fun _ => rfl
  simp only [h8]
  iintro ⟨⟨⟨%f10, HS⟩, Hρ⟩, H0, H1, H2, H3, H4, H5, H6, H7, ⟨%d8, %f9, -, H8⟩, Hk⟩
  iapply ((bodyRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole cc0_scratch0)
    (iblk m c 0 t) (iblk m c 1 t) (X2 m c t d2) (X3 m c t d3) (iblk m c 4 t) (iblk m c 5 t) (iblk m c 6 t) (iblk m c 7 t)).2 f9 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]
  · iexists f10; iexact HS
  iintro ⟨H0, H1, H2, H3, H4, H5, H6, H7, H8, ⟨%g10, HS⟩⟩
  iapply Hk
  isplitl [HS Hρ]
  · isplitl [HS]
    · iexists g10; iexact HS
    · iexact Hρ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists f9
  iexists _; isplitr; swap; · iexact H8
  ipureintro; unfold pieces; rfl

/-! ### The body obligation and the run, nothing said of the result -/

/-- The result window is forgotten. -/
def forgets0 : Fin 9 → Bool := fun w => w.val == 8

/-- The function the pipeline calls at a point is the kernel's step there. -/
theorem defs₀_row (t : Fin cfg0.N) :
    (defs₀ (F := F)) .tc cfg0.body (cfg0.bodyArgs t (cfg0.slots t)) = bodyAt0 t := by
  unfold defs₀; rw [Defs.onTc_tc]

/-- Inside the array the weight buffer holds the weight block. -/
theorem cut_X2 (c : Dev nD) (t : Fin cfg0.N) (d) : win0_2.cut (grid0.coords t) (X2 m c t d) = iblk m c 2 t :=
  win0_2.cut_fill _ _ _
/-- Inside the array the code buffer holds the code block. -/
theorem cut_X3 (c : Dev nD) (t : Fin cfg0.N) (d) : win0_3.cut (grid0.coords t) (X3 m c t d) = iblk m c 3 t :=
  win0_3.cut_fill _ _ _

/-- The step keeps the pipeline's contract, the result window's contents unnamed. -/
theorem body_obligation_forget (c : Dev nD) :
    BodyObligationLoose (dats m o 0 c) (defs₀ (F := F)) Variants.none () Set.univ forgets0 := fun t => by
  rw [bigSep_W0, bigSep_W0, defs₀_row]
  rw [show (dats m o 0 c).Φ t.succ = (Pipeline.ΦA spec0 c) from rfl, show (dats m o 0 c).Φ t.castSucc = (Pipeline.ΦA spec0 c) from rfl,
    show (dats m o 0 c).owesAt () t.succ = (dats m o 0 c).owesAt () t.castSucc from rfl]
  refine triple_restated (W := wp frame (wpE (defs₀ (F := F)) Variants.none (c : Thread nD τ) none) Set.univ (bodyAt0 t))
    (P := iprop(Pipeline.ΦA spec0 c ∗ (dats m o 0 c).owesAt () t.castSucc
        ∗ (∃ d, owns (c : Thread nD τ) (st0_0 t) fullShare ((dats m o 0 c).before 0 t d))
        ∗ (∃ d, owns (c : Thread nD τ) (st0_1 t) fullShare ((dats m o 0 c).before 1 t d))
        ∗ (∃ d, owns (c : Thread nD τ) (st0_2 t) fullShare ((dats m o 0 c).before 2 t d))
        ∗ (∃ d, owns (c : Thread nD τ) (st0_3 t) fullShare ((dats m o 0 c).before 3 t d))
        ∗ (∃ d, owns (c : Thread nD τ) (st0_4 t) fullShare ((dats m o 0 c).before 4 t d))
        ∗ (∃ d, owns (c : Thread nD τ) (st0_5 t) fullShare ((dats m o 0 c).before 5 t d))
        ∗ (∃ d, owns (c : Thread nD τ) (st0_6 t) fullShare ((dats m o 0 c).before 6 t d))
        ∗ (∃ d, owns (c : Thread nD τ) (st0_7 t) fullShare ((dats m o 0 c).before 7 t d))
        ∗ (∃ d, owns (c : Thread nD τ) (st0_8 t) fullShare d)))
    (Q := fun _ => iprop(Pipeline.ΦA spec0 c ∗ (dats m o 0 c).owesAt () t.castSucc
        ∗ owns (c : Thread nD τ) (st0_0 t) fullShare ((dats m o 0 c).after 0 t)
        ∗ owns (c : Thread nD τ) (st0_1 t) fullShare ((dats m o 0 c).after 1 t)
        ∗ (∃ d, owns (c : Thread nD τ) (st0_2 t) fullShare (win0_2.fill (grid0.coords t) d (win0_2.cut (grid0.coords t) ((dats m o 0 c).after 2 t))))
        ∗ (∃ d, owns (c : Thread nD τ) (st0_3 t) fullShare (win0_3.fill (grid0.coords t) d (win0_3.cut (grid0.coords t) ((dats m o 0 c).after 3 t))))
        ∗ owns (c : Thread nD τ) (st0_4 t) fullShare ((dats m o 0 c).after 4 t)
        ∗ owns (c : Thread nD τ) (st0_5 t) fullShare ((dats m o 0 c).after 5 t)
        ∗ owns (c : Thread nD τ) (st0_6 t) fullShare ((dats m o 0 c).after 6 t)
        ∗ owns (c : Thread nD τ) (st0_7 t) fullShare ((dats m o 0 c).after 7 t)
        ∗ (∃ d, owns (c : Thread nD τ) (st0_8 t) fullShare d))) ?_ rfl .rfl fun _ => .rfl
  simp only [before0_0, before0_1, before0_2, before0_3, before0_4, before0_5, before0_6, before0_7, after0_0, after0_1, after0_2,
    after0_3, after0_4, after0_5, after0_6, after0_7, cut_X2, cut_X3]
  iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, H8⟩
  iapply (step_at m c t e2 e3 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨HΦ, H0, H1, H2, H3, H4, H5, H6, H7, ⟨%f9, H8⟩⟩
  isplitl [HΦ]; · iexact HΦ
  isplitl [Ho]; · iexact Ho
  isplitl [H0]; · iexact H0
  isplitl [H1]; · iexact H1
  isplitl [H2]
  · iexists e2
    rw [show win0_2.fill (grid0.coords t) e2 (win0_2.cut (grid0.coords t) (X2 m c t dflt2)) = X2 m c t e2 from by
      rw [cut_X2]; rfl]
    iexact H2
  isplitl [H3]
  · iexists e3
    rw [show win0_3.fill (grid0.coords t) e3 (win0_3.cut (grid0.coords t) (X3 m c t dflt3)) = X3 m c t e3 from by
      rw [cut_X3]; rfl]
    iexact H3
  isplitl [H4]; · iexact H4
  isplitl [H5]; · iexact H5
  isplitl [H6]; · iexact H6
  isplitl [H7]; · iexact H7
  iexists _; iexact H8

/-- Every run ends with the input windows' arrays unchanged, every other buffer as the region found it, and every
    semaphore at zero. -/
theorem run_forget : θ_run (defs (F := F)) (onTc (τ := τ) (main (F := F))) (s₀ m ρ)
    (fun r => Pipeline.RDat.FramePost (cfgs 0) (fun c => (dats m o 0 c).toRForget forgets0) (V m) r ∧ r.2.sem = fun _ => 0) :=
  Pipeline.θ_run_frame_forget (Q' := _) cfgs (dats m o) (0 : Fin 1) launch0 defs₀ Variants.none forgets0 m ρ main
    (hbody := fun c => body_obligation_forget m o c) (hshare := fun c => (dats m o 0 c).share_full fun _ => rfl)
    (howed := fun _ _ => rfl) (V := V m) (hmain := hmain m Variants.none) (hA := A_eq m o) (hΦ := fun _ _ => rfl)

/-- The frame: every argument array ends unchanged and every semaphore at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨((h c).2 main_arg0 (Pipeline.mem_restRefs_of main_arg0 (by decide) (by decide))).trans (V_main_arg0 m c),
      (Pipeline.RDat.FramePost.arr_in h c 2 rfl).trans ((A_eq m (fun _ t => Pipeline.Dat.unnamed (cfg := cfg0) 8 t) c 2).trans (V_main_arg1 m c)),
      (Pipeline.RDat.FramePost.arr_in h c 3 rfl).trans ((A_eq m (fun _ t => Pipeline.Dat.unnamed (cfg := cfg0) 8 t) c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hz⟩)
    (run_forget m ρ (fun _ t => Pipeline.Dat.unnamed (cfg := cfg0) 8 t))

end Cert.Proof.KernelIdeal

end
-- ==== Proof.Words.lean ====
/- Reading reinterpreted words at an index: a vector's rows taken as bytes, half words or words of a column, and the
   byte-level shifts by one row that a word shift by eight bits performs. -/
module

public import Idealize.ShloMosaic.Lib.BitcastFour
public import Idealize.ShloMosaic.Lib.PointwiseCore

@[expose] public section

namespace Cert.Proof.Words

open Idealize.ShloMosaic hiding ix2
open Idealize.ShloMosaic.ValueIdx

/-- A rank-2 reinterpretation at a bit: bit `q` of row `a` is found at bit position `a * w + q` down the column. -/
theorem bitcast_bit {v w R r n : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  have e : (h.srcIdx (ix2 a l) ((Shape.row (s := ⟨2, ![r, n]⟩) (ix2 a l) * w + q) / v) (fun b hb =>
          (Nat.div_lt_iff_lt_mul hv).2 (h.pos_lt (ix2 a l) q hq b hb))) = ix2 p l := by
    funext c
    match c with
    | ⟨0, _⟩ => exact Fin.ext ((h.srcIdx_row _ _ _ ⟨0, Nat.zero_lt_two⟩ rfl).trans hp.symm)
    | ⟨1, _⟩ => exact Fin.ext (h.srcIdx_other _ _ _ ⟨1, Nat.one_lt_two⟩ (by show ¬ 1 + 2 = 2; omega))
  rw [e]; rfl

/-- A byte of a vector of words. -/
theorem byte_of_word {R r n : Nat} (x : (⟨2, ![r, n]⟩ : Shape).Idx → BitVec 32)
    (h : (⟨2, ![r, n]⟩ : Shape).Bitcasts 32 ⟨2, ![R, n]⟩ 8) (j : Fin R) (l : Fin n) (a : Fin r) (ha : a.val = j.val / 4) :
    bitcast ⟨2, ![R, n]⟩ 8 x h (ix2 j l) = (x (ix2 a l)).extractLsb' (8 * (j.val % 4)) 8 := by
  apply BitVec.eq_of_getLsbD_eq
  intro i hi
  rw [bitcast_bit x h j l i hi (by decide) a (by omega), BitVec.getLsbD_extractLsb']
  have e : (j.val * 8 + i) % 32 = 8 * (j.val % 4) + i := by omega
  rw [e]; simp [hi]

/-- Bytes taken as words, shifted left by eight bits and taken as bytes again: each byte that is not the lowest of its
    word is the byte one row before it. -/
theorem byte_shl {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (j j' : Fin R) (l : Fin n) (hR : R = 4 * r) (hj : j.val = j'.val + 1) (h4 : j'.val % 4 ≠ 3) :
    bitcast ⟨2, ![R, n]⟩ 8 (shli (bitcast ⟨2, ![r, n]⟩ 32 x h) (broadcast ⟨2, ![r, n]⟩ 8#32)) h' (ix2 j l) = x (ix2 j' l) := by
  have hr : j.val / 4 < r := by have := j.isLt; omega
  apply BitVec.eq_of_getLsbD_eq
  intro i hi
  rw [byte_of_word _ h' j l ⟨j.val / 4, hr⟩ rfl, BitVec.getLsbD_extractLsb', shli_apply, broadcast_apply]
  unfold IntOp.shli
  rw [if_pos (by decide), BitVec.getLsbD_shiftLeft']
  have h8 : (8#32 : BitVec 32).toNat = 8 := rfl
  rw [h8, bitcast_bit x h ⟨j.val / 4, hr⟩ l (8 * (j.val % 4) + i - 8) (by omega) (by decide) j' (by simp only []; omega)]
  have e : (j.val / 4 * 32 + (8 * (j.val % 4) + i - 8)) % 8 = i := by omega
  simp only []
  rw [e]
  have h1 : 8 * (j.val % 4) + i < 32 := by omega
  have h2 : ¬ 8 * (j.val % 4) + i < 8 := by omega
  simp [hi, h1, h2]

/-- Bytes taken as words, shifted right by eight bits and taken as bytes again: each byte that is not the highest of its
    word is the byte one row after it. -/
theorem byte_shr {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (j j' : Fin R) (l : Fin n) (hR : R = 4 * r) (hj : j'.val = j.val + 1) (h4 : j.val % 4 ≠ 3) :
    bitcast ⟨2, ![R, n]⟩ 8 (shrui (bitcast ⟨2, ![r, n]⟩ 32 x h) (broadcast ⟨2, ![r, n]⟩ 8#32)) h' (ix2 j l) = x (ix2 j' l) := by
  have hr : j.val / 4 < r := by have := j.isLt; omega
  apply BitVec.eq_of_getLsbD_eq
  intro i hi
  rw [byte_of_word _ h' j l ⟨j.val / 4, hr⟩ rfl, BitVec.getLsbD_extractLsb', shrui_apply, broadcast_apply]
  unfold IntOp.shrui
  rw [if_pos (by decide), BitVec.ushiftRight_eq', BitVec.getLsbD_ushiftRight]
  have h8 : (8#32 : BitVec 32).toNat = 8 := rfl
  rw [h8, bitcast_bit x h ⟨j.val / 4, hr⟩ l (8 + (8 * (j.val % 4) + i)) (by omega) (by decide) j' (by simp only []; omega)]
  have e : (j.val / 4 * 32 + (8 + (8 * (j.val % 4) + i))) % 8 = i := by omega
  simp only []
  rw [e]
  simp [hi]

/-- Bytes taken as words and the words as half words: a half word is its two bytes, the lower row the low byte. -/
theorem half_of_bytes {R r q n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![q, n]⟩ 16)
    (i : Fin q) (l : Fin n) (hq : q = 2 * r) (j0 j1 : Fin R) (h0 : j0.val = 2 * i.val) (h1 : j1.val = 2 * i.val + 1) :
    bitcast ⟨2, ![q, n]⟩ 16 (bitcast ⟨2, ![r, n]⟩ 32 x h) h' (ix2 i l) = x (ix2 j1 l) ++ x (ix2 j0 l) := by
  have hr : i.val / 2 < r := by have := i.isLt; omega
  apply BitVec.eq_of_getLsbD_eq
  intro b hb
  rw [bitcast_bit _ h' i l b hb (by decide) ⟨i.val / 2, hr⟩ (by simp only []; omega), BitVec.getLsbD_append]
  by_cases hlo : b < 8
  · rw [if_pos hlo, bitcast_bit x h ⟨i.val / 2, hr⟩ l _ (by omega) (by decide) j0 (by simp only []; omega)]
    congr 1; simp only []; omega
  · rw [if_neg hlo, bitcast_bit x h ⟨i.val / 2, hr⟩ l _ (by omega) (by decide) j1 (by simp only []; omega)]
    congr 1; simp only []; omega

/-- Bytes taken as words and the words as half words, the half words transposed and taken as words: bit `q` of the word
    at `(m, l)` is bit `q % 8` of the byte in row `2 l + q % 16 / 8` of column `2 m + q / 16`. -/
theorem transposed_bit {R r b k w : Nat} (x : (⟨2, ![R, k]⟩ : Shape).Idx → BitVec 8)
    (h1 : (⟨2, ![R, k]⟩ : Shape).Bitcasts 8 ⟨2, ![r, k]⟩ 32) (h2 : (⟨2, ![r, k]⟩ : Shape).Bitcasts 32 ⟨2, ![b, k]⟩ 16)
    (h3 : (⟨2, ![b, k]⟩ : Shape).Transposes [1, 0] ⟨2, ![k, b]⟩) (h4 : (⟨2, ![k, b]⟩ : Shape).Bitcasts 16 ⟨2, ![w, b]⟩ 32)
    (hb : b = 2 * r) (hk : k = 2 * w) (m : Fin w) (l : Fin b) (q : Nat) (hq : q < 32) (o : Fin R) (c : Fin k)
    (ho : o.val = 2 * l.val + q % 16 / 8) (hc : c.val = 2 * m.val + q / 16) :
    (bitcast ⟨2, ![w, b]⟩ 32 (transpose ⟨2, ![k, b]⟩ [1, 0] (bitcast ⟨2, ![b, k]⟩ 16 (bitcast ⟨2, ![r, k]⟩ 32 x h1) h2) h3) h4
        (ix2 m l)).getLsbD q = (x (ix2 o c)).getLsbD (q % 8) := by
  have hr : l.val / 2 < r := by have := l.isLt; omega
  rw [bitcast_bit _ h4 m l q hq (by decide) c (by omega)]
  have et : transpose ⟨2, ![k, b]⟩ [1, 0] (bitcast ⟨2, ![b, k]⟩ 16 (bitcast ⟨2, ![r, k]⟩ 32 x h1) h2) h3 (ix2 c l)
      = bitcast ⟨2, ![b, k]⟩ 16 (bitcast ⟨2, ![r, k]⟩ 32 x h1) h2 (ix2 l c) := by
    unfold transpose
    congr 1
    funext d
    match d with
    | ⟨0, _⟩ => rfl
    | ⟨1, _⟩ => rfl
  rw [et, bitcast_bit _ h2 l c _ (by omega) (by decide) ⟨l.val / 2, hr⟩ (by simp only []; omega),
    bitcast_bit x h1 ⟨l.val / 2, hr⟩ c _ (by omega) (by decide) o (by simp only []; omega)]
  congr 1; simp only []; omega

end Cert.Proof.Words
-- ==== Proof.IdealChunk.lean ====
/- One chunk of the weight decode: 256 rows by 128 packed bytes become a 256 by 256 block of scaled values, and one trip
   of the chunk loop adds the product of a slab of the input with that block to its accumulator. -/
module

public import proofs.«01_k».proof.Proof.IdealLoop
public import proofs.«01_k».proof.Proof.Words
public import Idealize.ShloMosaic.Lib.Pipeline.Value

@[expose] public section

set_option maxRecDepth 16384
set_option maxHeartbeats 4000000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- The table entries the nibbles (and what lies above them in each byte) of eight rows of words select. -/
def gath (v : Vec F S32x128 .i8) (sh : BitVec 32) (w : IVec S8x128 32) : IVec S32x128 8 :=
  dynamicGather 0 v (shapeCast S32x128 (shapeCast S32x128x1
    (extui 32 (bitcast S32x128 8 (shrui w (broadcast S8x128 sh)) bitcasts_S8x128_w32_S32x128_w8) natLt_8_32)
    shapeCasts_S32x128_S32x128x1) shapeCasts_S32x128x1_S32x128)

/-- The sixteen values that eight rows of words hold of the even outputs. -/
def evens (v1 v2 : Vec F S32x128 .i8) (v7 : IVec S32x128 1) (sh : BitVec 32) (w : IVec S8x128 32) : FVec F S16x128 .bf16 :=
  bitcastToFloat .bf16 (bitcast S16x128 16 (bitcast S8x128 32
    (select v7 (bitcast S32x128 8 (shli (bitcast S8x128 32 (gath (F := F) v2 sh w) bitcasts_S32x128_w8_S8x128_w32) (broadcast S8x128 8#32))
      bitcasts_S8x128_w32_S32x128_w8) (gath (F := F) v1 sh w)) bitcasts_S32x128_w8_S8x128_w32) bitcasts_S8x128_w32_S16x128_w16)

/-- The sixteen values that eight rows of words hold of the odd outputs. -/
def odds (v1 v2 : Vec F S32x128 .i8) (v7 : IVec S32x128 1) (sh : BitVec 32) (w : IVec S8x128 32) : FVec F S16x128 .bf16 :=
  bitcastToFloat .bf16 (bitcast S16x128 16 (bitcast S8x128 32
    (select v7 (gath (F := F) v2 sh w) (bitcast S32x128 8 (shrui (bitcast S8x128 32 (gath (F := F) v1 sh w) bitcasts_S32x128_w8_S8x128_w32)
      (broadcast S8x128 8#32)) bitcasts_S8x128_w32_S32x128_w8)) bitcasts_S32x128_w8_S8x128_w32) bitcasts_S8x128_w32_S16x128_w16)

/-- Eight rows of words from row `8 r` lie inside the words. -/
theorem slices_row (r : Fin 8) : S64x128.Slices ![8 * r.val, 0] S8x128 := by revert r; decide

/-- Rows `8 r` to `8 r + 7` of the words. -/
def wordRows (w : IVec S64x128 32) (r : Fin 8) : IVec S8x128 32 := extractStridedSlice S8x128 ![8 * r.val, 0] w (slices_row r)

/-- The half of a chunk's block that a decode `dec` gives: high nibbles above low nibbles, every sixteen rows at their scale row. -/
def half (dec : BitVec 32 → IVec S8x128 32 → FVec F S16x128 .bf16) (w : IVec S64x128 32) (s : Fin 8 → FVec F S16x128 .bf16)
    (k : Fin 16) : FVec F S16x128 .bf16 :=
  mulf (dec (if k.val < 8 then 4#32 else 0#32) (wordRows w ⟨k.val % 8, Nat.mod_lt _ (by decide)⟩)) (s ⟨k.val % 8, Nat.mod_lt _ (by decide)⟩)

/-- Sixteen pieces of sixteen rows make the 256 rows of a half. -/
theorem half_concatenates (f : Fin 16 → FVec F S16x128 .bf16) :
    Shape.Concatenates ((List.ofFn fun n : Fin 16 => (⟨S16x128, f n⟩ : (s : Shape) × (s.Idx → F .bf16))).map (·.1)) S256x128 0 :=
  concatenates_S16x128_S16x128_S16x128_S16x128_S16x128_S16x128_S16x128_S16x128_S16x128_S16x128_S16x128_S16x128_S16x128_S16x128_S16x128_S16x128_S256x128_d0

/-- The sixteen pieces of a half, one above the other. -/
def stack (f : Fin 16 → FVec F S16x128 .bf16) : FVec F S256x128 .bf16 :=
  concatenate S256x128 0 (List.ofFn fun n : Fin 16 => (⟨S16x128, f n⟩ : (s : Shape) × (s.Idx → F .bf16))) (half_concatenates f)

/-- One trip's accumulator: the block from the chunk's bytes `raw`, the scale rows `se` and `so` of the even and odd
    outputs, multiplied into the slab `x` of the input. -/
def chunk (v1 v2 : Vec F S32x128 .i8) (v7 : IVec S32x128 1) (raw : Vec F S256x128 .i8) (se so : Fin 8 → FVec F S16x128 .bf16)
    (x : Vec F S8x256 .bf16) (acc : FVec F S8x256 .f32) : FVec F S8x256 .f32 :=
  k0_pay134 acc (stack (half (evens v1 v2 v7) (k0_pay3 (F := F) raw) se)) (stack (half (odds v1 v2 v7) (k0_pay3 (F := F) raw) so)) x

section Loop

variable (c : Dev nD) (i : grid0.Coords)
  (arg1 : Memref sig .tc .smem S1x1 .f32) (harg1 : arg1.IsWhole)
  (arg2 : Memref sig .tc .vmem S8x5120 .bf16) (harg2 : arg2.IsWhole)
  (arg3 : Memref sig .tc .vmem S1280x2560 .i8) (harg3 : arg3.IsWhole)
  (arg4 : Memref sig .tc .vmem S1280x80 .i8) (harg4 : arg4.IsWhole)
  (arg5 : Memref sig .tc .vmem S75x128 .f32) (harg5 : arg5.IsWhole)
  (arg6 : Memref sig .tc .vmem S32x128 .i32) (harg6 : arg6.IsWhole)
  (arg7 : Memref sig .tc .vmem S2x128 .i32) (harg7 : arg7.IsWhole)
  (arg8 : Memref sig .tc .vmem S64x128 .i8) (harg8 : arg8.IsWhole)
  (arg9 : Memref sig .tc .vmem S8x1280 .bf16) (harg9 : arg9.IsWhole)
  (arg10 : Memref sig .tc .vmem S2x2x40x2x128 .bf16) (harg10 : arg10.IsWhole)
  (v0 : Elt F .f32) (v1 : Vec F S32x128 .i8) (v2 : Vec F S32x128 .i8) (v7 : IVec S32x128 1) (v8 : IVec S8x128 32)
  (X2 : BufTy.Contents (Elt F) arg2.view.ty)
  (X3 : BufTy.Contents (Elt F) arg3.view.ty)
  (X10 : BufTy.Contents (Elt F) arg10.view.ty)

/-- The scale row of the even outputs for the sixteen rows `r` of chunk `k`. -/
def scaleEven (k : Fin k0_t2_loop.trips) : Fin 8 → FVec F S16x128 .bf16 :=
  ![k0_pay5 (View.readAt (Elt F) arg10.view (Rect.unit (s := S2x2x40x2x128) (k0_off4 k 0#32) S1x1x1x2x128.size (k0_off4_inb k 0)).toLoadRect X10),
    k0_pay5 (View.readAt (Elt F) arg10.view (Rect.unit (s := S2x2x40x2x128) (k0_off4 k 0#32) S1x1x1x2x128.size (k0_off4_inb k 0)).toLoadRect X10),
    k0_pay5 (View.readAt (Elt F) arg10.view (Rect.unit (s := S2x2x40x2x128) (k0_off6 k 0#32) S1x1x1x2x128.size (k0_off6_inb k 0)).toLoadRect X10),
    k0_pay5 (View.readAt (Elt F) arg10.view (Rect.unit (s := S2x2x40x2x128) (k0_off6 k 0#32) S1x1x1x2x128.size (k0_off6_inb k 0)).toLoadRect X10),
    k0_pay5 (View.readAt (Elt F) arg10.view (Rect.unit (s := S2x2x40x2x128) (k0_off4 k 1#32) S1x1x1x2x128.size (k0_off4_inb k 1)).toLoadRect X10),
    k0_pay5 (View.readAt (Elt F) arg10.view (Rect.unit (s := S2x2x40x2x128) (k0_off4 k 1#32) S1x1x1x2x128.size (k0_off4_inb k 1)).toLoadRect X10),
    k0_pay5 (View.readAt (Elt F) arg10.view (Rect.unit (s := S2x2x40x2x128) (k0_off6 k 1#32) S1x1x1x2x128.size (k0_off6_inb k 1)).toLoadRect X10),
    k0_pay5 (View.readAt (Elt F) arg10.view (Rect.unit (s := S2x2x40x2x128) (k0_off6 k 1#32) S1x1x1x2x128.size (k0_off6_inb k 1)).toLoadRect X10)]

/-- The scale row of the odd outputs for the sixteen rows `r` of chunk `k`. -/
def scaleOdd (k : Fin k0_t2_loop.trips) : Fin 8 → FVec F S16x128 .bf16 :=
  ![k0_pay5 (View.readAt (Elt F) arg10.view (Rect.unit (s := S2x2x40x2x128) (k0_off5 k 0#32) S1x1x1x2x128.size (k0_off5_inb k 0)).toLoadRect X10),
    k0_pay5 (View.readAt (Elt F) arg10.view (Rect.unit (s := S2x2x40x2x128) (k0_off5 k 0#32) S1x1x1x2x128.size (k0_off5_inb k 0)).toLoadRect X10),
    k0_pay5 (View.readAt (Elt F) arg10.view (Rect.unit (s := S2x2x40x2x128) (k0_off7 k 0#32) S1x1x1x2x128.size (k0_off7_inb k 0)).toLoadRect X10),
    k0_pay5 (View.readAt (Elt F) arg10.view (Rect.unit (s := S2x2x40x2x128) (k0_off7 k 0#32) S1x1x1x2x128.size (k0_off7_inb k 0)).toLoadRect X10),
    k0_pay5 (View.readAt (Elt F) arg10.view (Rect.unit (s := S2x2x40x2x128) (k0_off5 k 1#32) S1x1x1x2x128.size (k0_off5_inb k 1)).toLoadRect X10),
    k0_pay5 (View.readAt (Elt F) arg10.view (Rect.unit (s := S2x2x40x2x128) (k0_off5 k 1#32) S1x1x1x2x128.size (k0_off5_inb k 1)).toLoadRect X10),
    k0_pay5 (View.readAt (Elt F) arg10.view (Rect.unit (s := S2x2x40x2x128) (k0_off7 k 1#32) S1x1x1x2x128.size (k0_off7_inb k 1)).toLoadRect X10),
    k0_pay5 (View.readAt (Elt F) arg10.view (Rect.unit (s := S2x2x40x2x128) (k0_off7 k 1#32) S1x1x1x2x128.size (k0_off7_inb k 1)).toLoadRect X10)]

/-- One trip of the chunk loop is one `chunk` of what the buffers hold. -/
theorem trip_eq (k0_t1 : Fin k0_t1_loop.trips) (arg11 : BitVec 32) (v125 v126 : FVec F S40x128 .f32)
    (k : Fin k0_t2_loop.trips) (acc : FVec F S8x256 .f32) :
    tripR_k0_t2 (F := F) Variants.none c none i arg1 harg1 arg2 harg2 arg3 harg3 arg4 harg4 arg5 harg5 arg6 harg6 arg7 harg7 arg8 harg8 arg9 harg9 arg10 harg10 v0 v1 v2 v7 v8 k0_t1 arg11 v125 v126 X2 X3 X10 k acc
      = chunk v1 v2 v7
          (View.readAt (Elt F) arg3.view (Rect.unit (s := S1280x2560) (k0_off3 k0_t1 k) S256x128.size (k0_off3_inb k0_t1 k)).toLoadRect X3)
          (scaleEven arg10 X10 k) (scaleOdd arg10 X10 k)
          (View.readAt (Elt F) arg2.view (Rect.unit (s := S8x5120) (k0_off8 k) S8x256.size (k0_off8_inb k)).toLoadRect X2) acc := by
  unfold tripR_k0_t2 trip_k0_t2
  rfl

end Loop

end Cert.Proof.KernelIdeal

end
-- ==== Proof.IdealGroup.lean ====
/- What one group of 256 output rows computes: the scales it puts into its scratch, the accumulator its chunk loop ends
   with, and the two pieces it writes over the result block. -/
module

public import proofs.«01_k».proof.Proof.IdealChunk

@[expose] public section

set_option maxRecDepth 16384
set_option maxHeartbeats 400000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- The scales of the 40 blocks of one parity and the 128 output rows of the other: code times scale plus offset, with
    the first of the row's two scales below the threshold block and the second from there on. -/
def blockScale (v0 : Elt F .f32) (w : IVec S40x128 32) (sh bp : BitVec 32) (sf sl : FVec F S1x128 .f32) (thr : Vec F S1x128 .i32) :
    FVec F S40x128 .f32 :=
  addf (mulf (sitofp .f32 (shrsi (shli w (broadcast S40x128 sh)) (broadcast S40x128 24#32)))
    (select (cmpi .slt (addi k0_pay117 (broadcast S40x128 bp)) (broadcastTo S40x128 thr broadcasts_S1x128_S40x128))
      (broadcastTo S40x128 (shapeCast S1x128 sf shapeCasts_S1x128_S1x128) broadcasts_S1x128_S40x128)
      (broadcastTo S40x128 (shapeCast S1x128 sl shapeCasts_S1x128_S1x128) broadcasts_S1x128_S40x128)))
    (broadcast S40x128 v0)

/-- The scales as the scratch stores them: rounded, every row twice. -/
def packed (a : FVec F S40x128 .f32) : Vec F S1x1x40x2x128 .bf16 :=
  interleaveRows S1x1x40x2x128
    (shapeCast S1x1x40x1x128 (shapeCast S1x1x40x128 (truncf .bf16 a bitsLt_bf16_f32) shapeCasts_S40x128_S1x1x40x128) shapeCasts_S1x1x40x128_S1x1x40x1x128)
    (shapeCast S1x1x40x1x128 (shapeCast S1x1x40x128 (truncf .bf16 a bitsLt_bf16_f32) shapeCasts_S40x128_S1x1x40x128) shapeCasts_S1x1x40x128_S1x1x40x1x128)
    bitcasts_S1x1x40x2x128_w16_S1x1x40x1x128_w32

/-- A row's scale, gathered for each output row of one parity. -/
def gathered (row : Vec F S1x128 .f32) (idx : Vec F S8x128 .i32) : FVec F S1x128 .f32 := k0_pay118 row idx

/-- Each quarter lies inside the scratch. -/
theorem quarter_inb (p b : Fin 2) : ∀ a, (![p.val, b.val, 0, 0, 0] : Fin 5 → ℕ) a + S1x1x40x2x128.size a ≤ S2x2x40x2x128.size a := by
  revert p b; decide

/-- The quarter of the scratch of row parity `p` and block parity `b`. -/
abbrev quarter (p b : Fin 2) : Rect S2x2x40x2x128 := Rect.unit ![p.val, b.val, 0, 0, 0] S1x1x40x2x128.size (quarter_inb p b)

/-- The scales `a` stored into one quarter. -/
def quarterPiece (p b : Fin 2) (a : FVec F S40x128 .f32) : View.Piece (Elt F) S2x2x40x2x128 .bf16 := ⟨quarter p b, packed a⟩

/-- The scratch: its four quarters, newest first, from the codes `w`, the scale row, the index rows and the thresholds. -/
def scratch (v0 : Elt F .f32) (w : IVec S40x128 32) (row : Vec F S1x128 .f32) (i0 i1 i2 i3 : Vec F S8x128 .i32) (t0 t1 : Vec F S1x128 .i32) :
    List (View.Piece (Elt F) S2x2x40x2x128 .bf16) :=
  [quarterPiece 1 1 (blockScale v0 w 0#32 1#32 (gathered row i1) (gathered row i3) t1),
   quarterPiece 1 0 (blockScale v0 w 16#32 0#32 (gathered row i1) (gathered row i3) t1),
   quarterPiece 0 1 (blockScale v0 w 8#32 1#32 (gathered row i0) (gathered row i2) t0),
   quarterPiece 0 0 (blockScale v0 w 24#32 0#32 (gathered row i0) (gathered row i2) t0)]

section Loop

variable (c : Dev nD) (i : grid0.Coords)
  (arg1 : Memref sig .tc .smem S1x1 .f32) (harg1 : arg1.IsWhole)
  (arg2 : Memref sig .tc .vmem S8x5120 .bf16) (harg2 : arg2.IsWhole)
  (arg3 : Memref sig .tc .vmem S1280x2560 .i8) (harg3 : arg3.IsWhole)
  (arg4 : Memref sig .tc .vmem S1280x80 .i8) (harg4 : arg4.IsWhole)
  (arg5 : Memref sig .tc .vmem S75x128 .f32) (harg5 : arg5.IsWhole)
  (arg6 : Memref sig .tc .vmem S32x128 .i32) (harg6 : arg6.IsWhole)
  (arg7 : Memref sig .tc .vmem S2x128 .i32) (harg7 : arg7.IsWhole)
  (arg8 : Memref sig .tc .vmem S64x128 .i8) (harg8 : arg8.IsWhole)
  (arg9 : Memref sig .tc .vmem S8x1280 .bf16) (harg9 : arg9.IsWhole)
  (arg10 : Memref sig .tc .vmem S2x2x40x2x128 .bf16) (harg10 : arg10.IsWhole)
  (arg0 : BitVec 32)
  (v0 : Elt F .f32) (v1 : Vec F S32x128 .i8) (v2 : Vec F S32x128 .i8) (v8 : IVec S8x128 32)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)

/-- The scratch of group `k`. -/
def groupScratch (k : Fin k0_t1_loop.trips) : List (View.Piece (Elt F) S2x2x40x2x128 .bf16) :=
  scratch v0
    (k0_pay115 (F := F) (View.readAt (Elt F) arg4.view (Rect.unit (s := S1280x80) (k0_off1 k) S256x80.size (k0_off1_inb k)).toLoadRect X4))
    (View.readAt (Elt F) arg5.view (Rect.unit (s := S75x128) (k0_off2 i k) S1x128.size (k0_off2_inb i k)).toLoadRect X5)
    (View.readAt (Elt F) arg6.view (Rect.unit (s := S32x128) ![0, 0] S8x128.size (by decide)).toLoadRect X6)
    (View.readAt (Elt F) arg6.view (Rect.unit (s := S32x128) ![8, 0] S8x128.size (by decide)).toLoadRect X6)
    (View.readAt (Elt F) arg6.view (Rect.unit (s := S32x128) ![16, 0] S8x128.size (by decide)).toLoadRect X6)
    (View.readAt (Elt F) arg6.view (Rect.unit (s := S32x128) ![24, 0] S8x128.size (by decide)).toLoadRect X6)
    (View.readAt (Elt F) arg7.view (Rect.unit (s := S2x128) ![0, 0] S1x128.size (by decide)).toLoadRect X7)
    (View.readAt (Elt F) arg7.view (Rect.unit (s := S2x128) ![1, 0] S1x128.size (by decide)).toLoadRect X7)

/-- The accumulator after `n` chunks, from a scratch `X10`. -/
def groupAcc (X10 : BufTy.Contents (Elt F) arg10.view.ty) (g : Fin k0_t1_loop.trips) : ℕ → FVec F S8x256 .f32
  | 0 => k0_pay130
  | n + 1 => if h : n < k0_t2_loop.trips then
      chunk v1 v2 k0_pay1
        (View.readAt (Elt F) arg3.view (Rect.unit (s := S1280x2560) (k0_off3 g ⟨n, h⟩) S256x128.size (k0_off3_inb g ⟨n, h⟩)).toLoadRect X3)
        (scaleEven arg10 X10 ⟨n, h⟩) (scaleOdd arg10 X10 ⟨n, h⟩)
        (View.readAt (Elt F) arg2.view (Rect.unit (s := S8x5120) (k0_off8 ⟨n, h⟩) S8x256.size (k0_off8_inb ⟨n, h⟩)).toLoadRect X2) (groupAcc X10 g n)
      else groupAcc X10 g n

/-- The chunk loop carries `groupAcc`. -/
theorem st_eq (X10 : BufTy.Contents (Elt F) arg10.view.ty) (g : Fin k0_t1_loop.trips) (arg11 : BitVec 32) (v125 v126 : FVec F S40x128 .f32) :
    ∀ n, n ≤ k0_t2_loop.trips →
    st_k0_t2 (F := F) Variants.none c none i arg1 harg1 arg2 harg2 arg3 harg3 arg4 harg4 arg5 harg5 arg6 harg6 arg7 harg7 arg8 harg8 arg9 harg9 arg10 harg10 v0 v1 v2 k0_pay1 v8 g arg11 v125 v126 X2 X3 X10 k0_pay130 n
      = groupAcc arg2 arg3 arg10 v1 v2 X2 X3 X10 g n
  | 0, _ => rfl
  | n + 1, h => by
    have hn : n < k0_t2_loop.trips := h
    refine (st_k0_t2_succ (F := F) Variants.none c none i arg1 harg1 arg2 harg2 arg3 harg3 arg4 harg4 arg5 harg5 arg6 harg6 arg7 harg7 arg8 harg8 arg9 harg9 arg10 harg10 v0 v1 v2 k0_pay1 v8 g arg11 v125 v126 X2 X3 X10 k0_pay130 ⟨n, hn⟩).trans ?_
    rw [trip_eq, st_eq X10 g arg11 v125 v126 n (Nat.le_of_lt hn)]
    rw [groupAcc, dif_pos hn]

/-- The two pieces a group writes, from its accumulator `A`. -/
def groupPieces (v8 : IVec S8x128 32) (k : Fin k0_t1_loop.trips) (A : FVec F S8x256 .f32) : List (View.Piece (Elt F) S8x1280 .bf16) :=
  [⟨Rect.unit (s := S8x1280) (k0_off9 k 128#32) S8x128.size (k0_off9_inb k 1), k0_pay2 (k0_pay135 A) (k0_pay136 A) (k0_pay138 v8)⟩,
   ⟨Rect.unit (s := S8x1280) (k0_off9 k 0#32) S8x128.size (k0_off9_inb k 0), k0_pay137 v8 A⟩]

/-- The pieces of a group, its accumulator still as the chunk loop spells it. -/
theorem group_st (k : Fin k0_t1_loop.trips) : ∃ (arg11 : BitVec 32) (v125 v126 : FVec F S40x128 .f32),
    tripL (F := F) c i arg1 harg1 arg2 harg2 arg3 harg3 arg4 harg4 arg5 harg5 arg6 harg6 arg7 harg7 arg8 harg8 arg9 harg9 arg10 harg10 arg0 v0 v1 v2 v8 X2 X3 X4 X5 X6 X7 k
      = groupPieces v8 k (st_k0_t2 (F := F) Variants.none c none i arg1 harg1 arg2 harg2 arg3 harg3 arg4 harg4 arg5 harg5 arg6 harg6 arg7 harg7 arg8 harg8 arg9 harg9 arg10 harg10 v0 v1 v2 k0_pay1 v8 k arg11 v125 v126 X2 X3
      (arg10.view.writes (Elt F) arg10.view.junk (groupScratch i arg4 arg5 arg6 arg7 v0 X4 X5 X6 X7 k)) k0_pay130 (Scf.trips k0_t2_loop.lb k0_t2_loop.ub k0_t2_loop.st)) := by
  unfold tripL trip
  exact ⟨_, _, _, rfl⟩

/-- The pieces of a group: two slabs of 128 columns drawn from its accumulator. -/
theorem group_eq (k : Fin k0_t1_loop.trips) :
    tripL (F := F) c i arg1 harg1 arg2 harg2 arg3 harg3 arg4 harg4 arg5 harg5 arg6 harg6 arg7 harg7 arg8 harg8 arg9 harg9 arg10 harg10 arg0 v0 v1 v2 v8 X2 X3 X4 X5 X6 X7 k
      = groupPieces v8 k (groupAcc arg2 arg3 arg10 v1 v2 X2 X3
          (arg10.view.writes (Elt F) arg10.view.junk (groupScratch i arg4 arg5 arg6 arg7 v0 X4 X5 X6 X7 k)) k k0_t2_loop.trips) := by
  obtain ⟨arg11, v125, v126, h⟩ := group_st (F := F) c i arg1 harg1 arg2 harg2 arg3 harg3 arg4 harg4 arg5 harg5 arg6 harg6 arg7 harg7 arg8 harg8 arg9 harg9 arg10 harg10 arg0 v0 v1 v2 v8 X2 X3 X4 X5 X6 X7 k
  rw [h, ← st_eq (F := F) c i arg1 harg1 arg2 harg2 arg3 harg3 arg4 harg4 arg5 harg5 arg6 harg6 arg7 harg7 arg8 harg8 arg9 harg9 arg10 harg10 v0 v1 v2 v8 X2 X3 _ k arg11 v125 v126 _ (Nat.le_refl _)]

end Loop

end Cert.Proof.KernelIdeal

end
-- ==== Proof.IdealDecode.lean ====
/- What the decode of a chunk holds at an index: each value is the table entry of one nibble of one byte. -/
module

public import proofs.«01_k».proof.Proof.IdealChunk

@[expose] public section

set_option maxRecDepth 16384
set_option maxHeartbeats 400000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- The nibble of a byte that a shift by `sh` selects. -/
def nib (sh : BitVec 32) (b : BitVec 8) : Fin 16 := ⟨(b >>> sh.toNat).toNat % 16, Nat.mod_lt _ (by decide)⟩

/-- The vector holds sixteen entries, each on two rows and on all lanes. -/
def IsTable (v : Vec F S32x128 .i8) (T : Fin 16 → BitVec 8) : Prop :=
  ∀ (n : Fin 32) (l : Fin 128), v (ix2 n l) = T ⟨n.val % 16, Nat.mod_lt _ (by decide)⟩

/-- The index vector under a gather: a byte of the shifted words. -/
theorem gath_idx (sh : BitVec 32) (w : IVec S8x128 32) (j : Fin 32) (l : Fin 128) :
    shapeCast S32x128 (shapeCast S32x128x1
      (extui 32 (bitcast S32x128 8 (shrui w (broadcast S8x128 sh)) bitcasts_S8x128_w32_S32x128_w8) natLt_8_32)
      shapeCasts_S32x128_S32x128x1) shapeCasts_S32x128x1_S32x128 (ix2 j l)
    = ((shrui w (broadcast S8x128 sh) (ix2 ⟨j.val / 4, by have := j.isLt; omega⟩ l)).extractLsb' (8 * (j.val % 4)) 8).setWidth 32 := by
  rw [shapeCast_comp, shapeCast_id, extui_apply]
  congr 1
  exact Words.byte_of_word _ bitcasts_S8x128_w32_S32x128_w8 j l _ rfl

/-- A bit of the words. -/
theorem word_bit (raw : Vec F S256x128 .i8) (m : Fin 64) (l : Fin 128) (q : Nat) (hq : q < 32) (o : Fin 256) (cc : Fin 128)
    (ho : o.val = 2 * l.val + q % 16 / 8) (hc : cc.val = 2 * m.val + q / 16) :
    (k0_pay3 (F := F) raw (ix2 m l)).getLsbD q = BitVec.getLsbD (w := 8) (raw (ix2 o cc)) (q % 8) := by
  unfold k0_pay3
  exact Words.transposed_bit (R := 256) (r := 64) (b := 128) (k := 128) (w := 64) raw bitcasts_S256x128_w8_S64x128_w32 bitcasts_S64x128_w32_S128x128_w16
    transposes_S128x128_p1_0_S128x128 bitcasts_S128x128_w16_S64x128_w32 rfl rfl m l q hq o cc ho hc

/-- A gather from a table reads the entry of a nibble: row `j` of rows `8 r …` of the words holds bytes of column
    `16 r + j / 2`, row `2 l + j % 2`. -/
theorem gath_apply {v : Vec F S32x128 .i8} {T : Fin 16 → BitVec 8} (hT : IsTable (F := F) v T) (raw : Vec F S256x128 .i8)
    (sh : BitVec 32) (hsh : sh = 4#32 ∨ sh = 0#32) (r : Fin 8) (j : Fin 32) (l : Fin 128) (o : Fin 256) (cc : Fin 128)
    (ho : o.val = 2 * l.val + j.val % 2) (hc : cc.val = 16 * r.val + j.val / 2) :
    gath (F := F) v sh (wordRows (k0_pay3 (F := F) raw) r) (ix2 j l) = T (nib sh (raw (ix2 o cc))) := by
  have hj := j.isLt
  have hr := r.isLt
  unfold gath
  rw [dynamicGather_apply, gath_idx]
  have e : (fun b : Fin S32x128.rank => if b = 0 then (⟨(((shrui (wordRows (k0_pay3 (F := F) raw) r) (broadcast S8x128 sh) (ix2 ⟨j.val / 4, by omega⟩ l)).extractLsb' (8 * (j.val % 4)) 8).setWidth 32).toNat % S32x128.size b, Nat.mod_lt _ (Fin.pos ((ix2 j l : S32x128.Idx) b))⟩ : Fin (S32x128.size b)) else (ix2 j l : S32x128.Idx) b)
      = ix2 ⟨(((shrui (wordRows (k0_pay3 (F := F) raw) r) (broadcast S8x128 sh) (ix2 ⟨j.val / 4, by omega⟩ l)).extractLsb' (8 * (j.val % 4)) 8).setWidth 32).toNat % 32, Nat.mod_lt _ (by decide)⟩ l := by
    funext b
    match b with
    | ⟨0, _⟩ => rfl
    | ⟨1, _⟩ => rfl
  refine (congrArg v e).trans ((hT _ _).trans (congrArg T (Fin.ext ?_)))
  show _ % 32 % 16 = (raw (ix2 o cc) >>> sh.toNat).toNat % 16
  have hw : ∀ q, q < 32 → ∀ (o' : Fin 256) (c' : Fin 128), o'.val = 2 * l.val + q % 16 / 8 → c'.val = 2 * (8 * r.val + j.val / 4) + q / 16 →
      (wordRows (k0_pay3 (F := F) raw) r (ix2 ⟨j.val / 4, by omega⟩ l)).getLsbD q = (raw (ix2 o' c')).getLsbD (q % 8) := by
    intro q hq o' c' ho' hc'
    unfold wordRows
    rw [extractStridedSlice_apply _ _ _ _ (ix2 ⟨8 * r.val + j.val / 4, by omega⟩ l) (by
      intro a
      match a with
      | ⟨0, _⟩ => rfl
      | ⟨1, _⟩ => exact (Nat.zero_add _).symm)]
    exact word_bit (F := F) raw _ l q hq o' c' ho' hc'
  have hbits : ((shrui (wordRows (k0_pay3 (F := F) raw) r) (broadcast S8x128 sh) (ix2 ⟨j.val / 4, by omega⟩ l)).extractLsb' (8 * (j.val % 4)) 8).setWidth 4
      = (raw (ix2 o cc) >>> sh.toNat).setWidth 4 := by
    apply BitVec.eq_of_getLsbD_eq
    intro p hp
    rw [BitVec.getLsbD_setWidth, BitVec.getLsbD_setWidth, BitVec.getLsbD_extractLsb', shrui_apply, broadcast_apply, BitVec.getLsbD_ushiftRight]
    unfold IntOp.shrui
    rcases hsh with h | h <;> subst h
    · rw [if_pos (by decide), BitVec.ushiftRight_eq', BitVec.getLsbD_ushiftRight, hw _ (by show 4 + _ < 32; omega) o cc (by rw [ho]; show _ = _ + (4 + _) % 16 / 8; omega) (by rw [hc]; show _ = _ + (4 + _) / 16; omega)]
      have : (4 + (8 * (j.val % 4) + p)) % 8 = 4 + p := by omega
      show (decide (p < 4) && (decide (p < 8) && (raw (ix2 o cc)).getLsbD ((4 + (8 * (j.val % 4) + p)) % 8))) = (decide (p < 4) && (raw (ix2 o cc)).getLsbD (4 + p))
      rw [this, decide_eq_true hp, decide_eq_true (show p < 8 by omega)]; simp
    · rw [if_pos (by decide), BitVec.ushiftRight_eq', BitVec.getLsbD_ushiftRight, hw _ (by show 0 + _ < 32; omega) o cc (by rw [ho]; show _ = _ + (0 + _) % 16 / 8; omega) (by rw [hc]; show _ = _ + (0 + _) / 16; omega)]
      have : (0 + (8 * (j.val % 4) + p)) % 8 = 0 + p := by omega
      show (decide (p < 4) && (decide (p < 8) && (raw (ix2 o cc)).getLsbD ((0 + (8 * (j.val % 4) + p)) % 8))) = (decide (p < 4) && (raw (ix2 o cc)).getLsbD (0 + p))
      rw [this, decide_eq_true hp, decide_eq_true (show p < 8 by omega)]; simp
  have hn := congrArg BitVec.toNat hbits
  rw [BitVec.toNat_setWidth, BitVec.toNat_setWidth] at hn
  rw [BitVec.toNat_setWidth, Nat.mod_eq_of_lt (lt_of_lt_of_le (BitVec.isLt _) (by decide)), Nat.mod_mod_of_dvd _ (by decide : 16 ∣ 32)]
  exact hn

/-- The parity mask of the rows. -/
theorem mask_apply (j : Fin 32) (l : Fin 128) : k0_pay1 (ix2 j l) = if j.val % 2 = 1 then 1#1 else 0#1 := by
  have : k0_pay1 (ix2 j l) = IntOp.cmpi .eq (IntOp.andi (BitVec.ofNat 32 (0 * 32 + j.val)) 1#32) 1#32 := rfl
  rw [this]
  clear this
  revert j
  decide

/-- The value that a nibble stands for: the high and the low byte of its bit pattern. -/
def val (T1 T2 : Fin 16 → BitVec 8) (n : Fin 16) : F .bf16 := FloatOps.ofBits .bf16 (T2 n ++ T1 n)

/-- A set bit selects the first operand. -/
theorem scalar_one {α : Type} (a b : α) : Scalar.select 1#1 a b = a := rfl

/-- A clear bit selects the second operand. -/
theorem scalar_zero {α : Type} (a b : α) : Scalar.select 0#1 a b = b := rfl

/-- The half words assembled for the even outputs: at row `i`, the two bytes at row `2 i`. -/
theorem even_bits (lo hi : IVec S32x128 8) (i : Fin 16) (l : Fin 128) (j : Fin 32) (hj : j.val = 2 * i.val) :
    bitcast S16x128 16 (bitcast S8x128 32
      (select k0_pay1 (bitcast S32x128 8 (shli (bitcast S8x128 32 hi bitcasts_S32x128_w8_S8x128_w32) (broadcast S8x128 8#32))
        bitcasts_S8x128_w32_S32x128_w8) lo) bitcasts_S32x128_w8_S8x128_w32) bitcasts_S8x128_w32_S16x128_w16 (ix2 i l)
      = hi (ix2 j l) ++ lo (ix2 j l) := by
  have hi' := i.isLt
  refine (Words.half_of_bytes (R := 32) (r := 8) (q := 16) (n := 128) _ bitcasts_S32x128_w8_S8x128_w32 bitcasts_S8x128_w32_S16x128_w16 i l rfl j ⟨2 * i.val + 1, by omega⟩ hj rfl).trans ?_
  refine congrArg₂ (fun a b : BitVec 8 => a ++ b) ?_ ?_
  · rw [select_apply, mask_apply, if_pos (show (2 * i.val + 1) % 2 = 1 by omega), scalar_one]
    exact Words.byte_shl (R := 32) (r := 8) (n := 128) hi bitcasts_S32x128_w8_S8x128_w32 bitcasts_S8x128_w32_S32x128_w8 ⟨2 * i.val + 1, by omega⟩ j l rfl
      (by rw [hj]) (by omega)
  · rw [select_apply, mask_apply, if_neg (show ¬ j.val % 2 = 1 by omega)]
    rfl

/-- The half words assembled for the odd outputs: at row `i`, the two bytes at row `2 i + 1`. -/
theorem odd_bits (lo hi : IVec S32x128 8) (i : Fin 16) (l : Fin 128) (j : Fin 32) (hj : j.val = 2 * i.val + 1) :
    bitcast S16x128 16 (bitcast S8x128 32
      (select k0_pay1 hi (bitcast S32x128 8 (shrui (bitcast S8x128 32 lo bitcasts_S32x128_w8_S8x128_w32) (broadcast S8x128 8#32))
        bitcasts_S8x128_w32_S32x128_w8)) bitcasts_S32x128_w8_S8x128_w32) bitcasts_S8x128_w32_S16x128_w16 (ix2 i l)
      = hi (ix2 j l) ++ lo (ix2 j l) := by
  have hi' := i.isLt
  refine (Words.half_of_bytes (R := 32) (r := 8) (q := 16) (n := 128) _ bitcasts_S32x128_w8_S8x128_w32 bitcasts_S8x128_w32_S16x128_w16 i l rfl ⟨2 * i.val, by omega⟩ j rfl hj).trans ?_
  refine congrArg₂ (fun a b : BitVec 8 => a ++ b) ?_ ?_
  · rw [select_apply, mask_apply, if_pos (show j.val % 2 = 1 by omega)]
    rfl
  · rw [select_apply, mask_apply, if_neg (show ¬ (2 * i.val) % 2 = 1 by omega), scalar_zero]
    exact Words.byte_shr (R := 32) (r := 8) (n := 128) lo bitcasts_S32x128_w8_S8x128_w32 bitcasts_S8x128_w32_S32x128_w8 ⟨2 * i.val, by omega⟩ j l rfl hj
      (show 2 * i.val % 4 ≠ 3 by omega)

/-- The even outputs' values: the nibbles of row `2 l`. -/
theorem evens_apply {v1 v2 : Vec F S32x128 .i8} {T1 T2 : Fin 16 → BitVec 8} (h1 : IsTable (F := F) v1 T1) (h2 : IsTable (F := F) v2 T2)
    (raw : Vec F S256x128 .i8) (sh : BitVec 32) (hsh : sh = 4#32 ∨ sh = 0#32) (r : Fin 8) (i : Fin 16) (l : Fin 128)
    (o : Fin 256) (cc : Fin 128) (ho : o.val = 2 * l.val) (hc : cc.val = 16 * r.val + i.val) :
    evens (F := F) v1 v2 k0_pay1 sh (wordRows (k0_pay3 (F := F) raw) r) (ix2 i l) = val T1 T2 (nib sh (raw (ix2 o cc))) := by
  have hi := i.isLt
  have hj : 2 * i.val < 32 := by omega
  have hlo := gath_apply (F := F) h1 raw sh hsh r ⟨2 * i.val, hj⟩ l o cc (by simp only []; omega) (by simp only []; omega)
  have hhi := gath_apply (F := F) h2 raw sh hsh r ⟨2 * i.val, hj⟩ l o cc (by simp only []; omega) (by simp only []; omega)
  exact congrArg (FloatOps.ofBits FTy.bf16)
    ((even_bits (gath (F := F) v1 sh (wordRows (k0_pay3 (F := F) raw) r)) (gath (F := F) v2 sh (wordRows (k0_pay3 (F := F) raw) r)) i l
      ⟨2 * i.val, hj⟩ rfl).trans (congrArg₂ (fun a b : BitVec 8 => a ++ b) hhi hlo))

/-- The odd outputs' values: the nibbles of row `2 l + 1`. -/
theorem odds_apply {v1 v2 : Vec F S32x128 .i8} {T1 T2 : Fin 16 → BitVec 8} (h1 : IsTable (F := F) v1 T1) (h2 : IsTable (F := F) v2 T2)
    (raw : Vec F S256x128 .i8) (sh : BitVec 32) (hsh : sh = 4#32 ∨ sh = 0#32) (r : Fin 8) (i : Fin 16) (l : Fin 128)
    (o : Fin 256) (cc : Fin 128) (ho : o.val = 2 * l.val + 1) (hc : cc.val = 16 * r.val + i.val) :
    odds (F := F) v1 v2 k0_pay1 sh (wordRows (k0_pay3 (F := F) raw) r) (ix2 i l) = val T1 T2 (nib sh (raw (ix2 o cc))) := by
  have hi := i.isLt
  have hj : 2 * i.val + 1 < 32 := by omega
  have hlo := gath_apply (F := F) h1 raw sh hsh r ⟨2 * i.val + 1, hj⟩ l o cc (by simp only []; omega) (by simp only []; omega)
  have hhi := gath_apply (F := F) h2 raw sh hsh r ⟨2 * i.val + 1, hj⟩ l o cc (by simp only []; omega) (by simp only []; omega)
  exact congrArg (FloatOps.ofBits FTy.bf16)
    ((odd_bits (gath (F := F) v1 sh (wordRows (k0_pay3 (F := F) raw) r)) (gath (F := F) v2 sh (wordRows (k0_pay3 (F := F) raw) r)) i l
      ⟨2 * i.val + 1, hj⟩ rfl).trans (congrArg₂ (fun a b : BitVec 8 => a ++ b) hhi hlo))

end Cert.Proof.KernelIdeal

end
-- ==== Proof.IdealChunkValue.lean ====
/- The value of one chunk at an index over the extended reals: the accumulator plus the inner product of a slab row with
   the decoded and scaled column. -/
module

public import proofs.«01_k».proof.Proof.IdealDecode
public import Idealize.ShloMosaic.Lib.MatmulPlain
public import Idealize.ShloMosaic.Lib.Pointwise

@[expose] public section

set_option maxRecDepth 16384
set_option maxHeartbeats 400000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- Two vectors interleaved by rows, at an index. -/
theorem interleave_apply {α : Type} (lo hi : S8x128.Idx → α) (h : S16x128.Bitcasts 16 S8x128 32) (i : Fin 16) (l : Fin 128) :
    interleaveRows S16x128 lo hi h (ix2 i l)
      = if i.val % 2 = 0 then lo (ix2 ⟨i.val / 2, by have := i.isLt; omega⟩ l) else hi (ix2 ⟨i.val / 2, by have := i.isLt; omega⟩ l) := by
  rw [interleaveRows_apply]
  have hrow : S16x128.row (ix2 i l) = i.val := rfl
  rw [hrow]
  refine if_congr Iff.rfl (congrArg lo ?_) (congrArg hi ?_) <;>
  · funext b
    match b with
    | ⟨0, _⟩ => rfl
    | ⟨1, _⟩ => rfl

/-- A scale row is spread over sixteen rows: even rows repeat its first half, odd rows its second. -/
theorem scale_row_apply (raw : Vec F S1x1x1x2x128 .bf16) (i : Fin 16) (l : Fin 128) (b : Fin 2) (hb : b.val = i.val % 2) :
    k0_pay5 raw (ix2 i l) = raw (ValueIdx.ix5 0 0 0 b l) := by
  have hi := i.isLt
  have key : ∀ (p : Fin 2) (a : Fin 8), concatenate S8x128 0 (List.replicate 8 (⟨S1x128, shapeCast S1x128 (shapeCast S1x1x1x128
      (rowsOfParity p S1x1x1x1x128 raw bitcasts_S1x1x1x2x128_w16_S1x1x1x1x128_w32) shapeCasts_S1x1x1x1x128_S1x1x1x128) shapeCasts_S1x1x1x128_S1x128⟩ :
        (s : Shape) × (s.Idx → F .bf16)))
      concatenates_S1x128_S1x128_S1x128_S1x128_S1x128_S1x128_S1x128_S1x128_S8x128_d0 (ix2 a l) = raw (ValueIdx.ix5 0 0 0 p l) := by
    intro p a
    rw [concatenate_replicate_apply (s₁ := S1x128) (t := S8x128) 0 8 _ _ rfl (ix2 a l) (ix2 0 l) (by show 0 = a.val % 1; omega)
      (by intro b hb'
          match b with
          | ⟨0, _⟩ => exact absurd rfl hb'
          | ⟨1, _⟩ => rfl)]
    rw [shapeCast_comp, shapeCast_apply _ _ _ (ValueIdx.ix5 0 0 0 0 l : S1x1x1x1x128.Idx) (by
      rw [rowMajor_val5 (d := ![1, 1, 1, 1, 128]) _ 128 128 128 128 rfl rfl rfl rfl, rowMajor_val2 (d := ![1, 128]) _ 128 rfl]; rfl)]
    rw [rowsOfParity_apply]
    refine congrArg raw ?_
    funext c
    match c with
    | ⟨0, _⟩ => rfl
    | ⟨1, _⟩ => rfl
    | ⟨2, _⟩ => rfl
    | ⟨3, _⟩ => exact Fin.ext (Nat.zero_add _)
    | ⟨4, _⟩ => rfl
  unfold k0_pay5
  rw [interleave_apply]
  by_cases h0 : i.val % 2 = 0
  · rw [if_pos h0]
    have hb0 : b = 0 := Fin.ext (by rw [hb, h0]; rfl)
    subst hb0
    exact key 0 ⟨i.val / 2, by omega⟩
  · rw [if_neg h0]
    have hb1 : b = 1 := Fin.ext (by rw [hb]; show _ = 1; omega)
    subst hb1
    exact key 1 ⟨i.val / 2, by omega⟩

/-- A stack at an index: piece `kk / 16`, row `kk % 16`. -/
theorem stack_apply (f : Fin 16 → FVec F S16x128 .bf16) (kk : Fin 256) (l : Fin 128) :
    stack f (ix2 kk l) = f ⟨kk.val / 16, by have := kk.isLt; omega⟩ (ix2 ⟨kk.val % 16, Nat.mod_lt _ (by decide)⟩ l) := by
  unfold stack
  exact concatenate_ofFn_apply (t := S256x128) (s₁ := S16x128) 0 f _ rfl 16 rfl (ix2 kk l) ⟨kk.val / 16, by have := kk.isLt; omega⟩ rfl
    (ix2 ⟨kk.val % 16, Nat.mod_lt _ (by decide)⟩ l) rfl (by
      intro b hb
      match b with
      | ⟨0, _⟩ => exact absurd rfl hb
      | ⟨1, _⟩ => rfl)

/-- The product of a trip at an index. -/
theorem product_apply (acc : FVec Ideal S8x256 .f32) (a b : FVec Ideal S256x128 .bf16) (x : Vec Ideal S8x256 .bf16) (t : Fin 8) (n : Fin 256) :
    (k0_pay134 acc a b x (ix2 t n) : EReal) = acc (ix2 t n) + ∑ kk : Fin 256, (x (ix2 t kk) : EReal) *
      (if h : n.val < 128 then a (ix2 kk ⟨n.val, h⟩) else b (ix2 kk ⟨n.val - 128, by have := n.isLt; omega⟩)) := by
  unfold k0_pay134
  show (acc (ix2 t n) : EReal) + _ = _
  refine congrArg (fun z : EReal => (acc (ix2 t n) : EReal) + z) ?_
  refine (Ideal.matmul_plain_apply (M := 8) (K := 256) (N := 256) none _ _ _ t n).trans ?_
  have hz : (constant (F := Ideal) S8x256 .f32 0x00000000#32 (ix2 t n) : EReal) = 0 := Ideal.ofBits_zero_f32
  rw [hz, zero_add]
  refine Finset.sum_congr rfl fun kk _ => ?_
  rw [shapeCast_id]
  refine congrArg (fun z : EReal => (x (ix2 t kk) : EReal) * z) ?_
  by_cases h : n.val < 128
  · rw [dif_pos h]
    exact concatenate_pair_apply_left (t := S256x256) (s₁ := S256x128) (s₂ := S256x128) 1 a b _ (ix2 kk n) rfl (ix2 kk ⟨n.val, h⟩) (by
      intro c
      match c with
      | ⟨0, _⟩ => rfl
      | ⟨1, _⟩ => rfl)
  · rw [dif_neg h]
    exact concatenate_pair_apply_right (t := S256x256) (s₁ := S256x128) (s₂ := S256x128) 1 a b _ (ix2 kk n) rfl rfl
      (ix2 kk ⟨n.val - 128, by have := n.isLt; omega⟩) (by
      intro c hc
      match c with
      | ⟨0, _⟩ => rfl
      | ⟨1, _⟩ => exact absurd rfl hc) (by show n.val - 128 + 128 = n.val; omega)

end Cert.Proof.KernelIdeal

end
-- ==== Proof.IdealScale.lean ====
/- The scales at an index: each entry of the scratch is one block's code times its scale plus the offset, and the chunk's
   scale rows read the scratch. -/
module

public import proofs.«01_k».proof.Proof.IdealGroup
public import proofs.«01_k».proof.Proof.IdealChunkValue
public import Idealize.ShloMosaic.Lib.Pipeline.FrameBody
public import Idealize.ShloMosaic.Lib.Pipeline.ValueKit.Geometry

@[expose] public section

set_option maxRecDepth 16384
set_option maxHeartbeats 200000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- Shifting a byte of a word to the top and arithmetically back down sign-extends it. -/
theorem signed_byte (x : BitVec 32) (a : Fin 4) :
    (x <<< (24 - 8 * a.val)).sshiftRight 24 = (x.extractLsb' (8 * a.val) 8).signExtend 32 := by
  have ha := a.isLt
  apply BitVec.eq_of_getLsbD_eq
  intro i hi
  rw [BitVec.getLsbD_sshiftRight, BitVec.getLsbD_signExtend, BitVec.msb_eq_getLsbD_last, BitVec.msb_eq_getLsbD_last]
  simp only [BitVec.getLsbD_shiftLeft, BitVec.getLsbD_extractLsb']
  by_cases h : i < 8
  · have e1 : 24 + i - (24 - 8 * a.val) = 8 * a.val + i := by omega
    have h1 : 24 + i < 32 := by omega
    have h2 : ¬ (24 + i < 24 - 8 * a.val) := by omega
    have h3 : ¬ 32 ≤ i := by omega
    simp [h, h1, h2, h3, hi, e1]
  · have e1 : 31 - (24 - 8 * a.val) = 8 * a.val + 7 := by omega
    have h1 : ¬ 24 + i < 32 := by omega
    have h2 : ¬ (31 < 24 - 8 * a.val) := by omega
    have h3 : ¬ 32 ≤ i := by omega
    simp [h, h1, h2, h3, hi, e1]

/-- A byte of the transposed codes. -/
theorem code_byte (codes : Vec F S256x80 .i8) (h : Fin 40) (l : Fin 128) (p b : Fin 2) (o : Fin 256) (cc : Fin 80)
    (ho : o.val = 2 * l.val + p.val) (hc : cc.val = 2 * h.val + b.val) :
    (k0_pay115 (F := F) codes (ix2 h l)).extractLsb' (8 * (p.val + 2 * b.val)) 8 = codes (ix2 o cc) := by
  have hp := p.isLt
  have hb := b.isLt
  apply BitVec.eq_of_getLsbD_eq
  intro q hq
  rw [BitVec.getLsbD_extractLsb']
  unfold k0_pay115
  refine (congrArg (fun z => decide (q < 8) && z) (Words.transposed_bit (R := 256) (r := 64) (b := 128) (k := 80) (w := 40) codes bitcasts_S256x80_w8_S64x80_w32 bitcasts_S64x80_w32_S128x80_w16
    transposes_S128x80_p1_0_S80x128 bitcasts_S80x128_w16_S40x128_w32 rfl rfl h l (8 * (p.val + 2 * b.val) + q) (by omega) o cc (by omega) (by omega))).trans ?_
  have e : (8 * (p.val + 2 * b.val) + q) % 8 = q := by omega
  rw [e, decide_eq_true hq, Bool.true_and]

/-- A gathered scale. -/
theorem gathered_apply (row : Vec F S1x128 .f32) (idx : Vec F S8x128 .i32) (l : Fin 128) :
    gathered row idx (ix2 0 l) = row (ix2 0 ⟨BitVec.toNat (w := 32) (idx (ix2 0 l)) % 128, Nat.mod_lt _ (by decide)⟩) := by
  unfold gathered k0_pay118
  rw [extractStridedSlice_apply (s := S8x128) (t := S1x128) _ _ _ (ix2 0 l) (ix2 0 l) (by
    intro a
    match a with
    | ⟨0, _⟩ => rfl
    | ⟨1, _⟩ => exact (Nat.zero_add _).symm)]
  rw [dynamicGather_apply, shapeCast_comp, shapeCast_id]
  have e : (fun b : Fin S8x128.rank => if b = 1 then (⟨BitVec.toNat (w := 32) (idx (ix2 0 l)) % S8x128.size b, Nat.mod_lt _ (Fin.pos ((ix2 0 l : S8x128.Idx) b))⟩ : Fin (S8x128.size b)) else (ix2 0 l : S8x128.Idx) b)
      = ix2 0 ⟨BitVec.toNat (w := 32) (idx (ix2 0 l)) % 128, Nat.mod_lt _ (by decide)⟩ := by
    funext b
    match b with
    | ⟨0, _⟩ => rfl
    | ⟨1, _⟩ => rfl
  refine (congrArg _ e).trans ?_
  unfold k0_pay116
  rw [shapeCast_id, shapeCast_id]
  exact broadcastTo_apply (s := S1x128) (t := S8x128) row _ _ (ix2 0 _) (by
    intro a
    match a with
    | ⟨0, _⟩ => rfl
    | ⟨1, _⟩ => rfl)

/-- A row broadcast down the 40 rows. -/
theorem down_apply {α : Type} (x : S1x128.Idx → α) (h : Fin 40) (l : Fin 128) :
    broadcastTo S40x128 x broadcasts_S1x128_S40x128 (ix2 h l) = x (ix2 0 l) :=
  broadcastTo_apply (s := S1x128) (t := S40x128) x _ _ (ix2 0 l) (by
    intro a
    match a with
    | ⟨0, _⟩ => rfl
    | ⟨1, _⟩ => rfl)

/-- The comparison of a block number with a threshold word. -/
theorem below_apply (h : Fin 40) (l : Fin 128) (b : Fin 2) (bp : BitVec 32) (hbp : bp = BitVec.ofNat 32 b.val) (thr : Vec F S1x128 .i32) :
    cmpi .slt (addi k0_pay117 (broadcast S40x128 bp)) (broadcastTo S40x128 thr broadcasts_S1x128_S40x128) (ix2 h l)
      = IntOp.cmpi .slt (BitVec.ofNat 32 (2 * h.val + b.val)) (thr (ix2 0 l)) := by
  rw [cmpi_apply, down_apply]
  refine congrArg (fun z => IntOp.cmpi .slt z (thr (ix2 0 l))) ?_
  subst hbp
  have : addi k0_pay117 (broadcast S40x128 (BitVec.ofNat 32 b.val)) (ix2 h l) = 2#32 * BitVec.ofNat 32 (0 * 40 + h.val) + BitVec.ofNat 32 b.val := rfl
  rw [this]
  clear this
  revert h b
  decide

/-- A block's scale at an index. -/
theorem blockScale_apply (v0 : Elt Ideal .f32) (codes : Vec Ideal S256x80 .i8) (sh bp : BitVec 32) (p b : Fin 2)
    (hsh : sh = BitVec.ofNat 32 (24 - 8 * (p.val + 2 * b.val))) (hbp : bp = BitVec.ofNat 32 b.val)
    (row : Vec Ideal S1x128 .f32) (i0 i1 : Vec Ideal S8x128 .i32) (thr : Vec Ideal S1x128 .i32) (h : Fin 40) (l : Fin 128)
    (o : Fin 256) (cc : Fin 80) (ho : o.val = 2 * l.val + p.val) (hc : cc.val = 2 * h.val + b.val) :
    (blockScale v0 (k0_pay115 (F := Ideal) codes) sh bp (gathered row i0) (gathered row i1) thr (ix2 h l) : EReal)
      = Scalar.sitofp (F := Ideal) .f32 (BitVec.signExtend 32 (w := 8) (codes (ix2 o cc)))
          * Scalar.select (IntOp.cmpi .slt (BitVec.ofNat 32 cc.val) (thr (ix2 0 l)))
              (row (ix2 0 ⟨BitVec.toNat (w := 32) (i0 (ix2 0 l)) % 128, Nat.mod_lt _ (by decide)⟩) : EReal)
              (row (ix2 0 ⟨BitVec.toNat (w := 32) (i1 (ix2 0 l)) % 128, Nat.mod_lt _ (by decide)⟩)) + v0 := by
  have hp := p.isLt
  have hb := b.isLt
  have e1 : shrsi (shli (k0_pay115 (F := Ideal) codes) (broadcast S40x128 sh)) (broadcast S40x128 24#32) (ix2 h l)
      = BitVec.signExtend 32 (w := 8) (codes (ix2 o cc)) := by
    rw [← code_byte codes h l p b o cc ho hc, ← signed_byte _ ⟨p.val + 2 * b.val, by omega⟩, shrsi_apply, shli_apply, broadcast_apply, broadcast_apply]
    generalize k0_pay115 (F := Ideal) codes (ix2 h l) = x
    unfold IntOp.shrsi IntOp.shli
    have hs : sh.toNat = 24 - 8 * (p.val + 2 * b.val) := by rw [hsh, BitVec.toNat_ofNat]; omega
    rw [if_pos (by decide), if_pos (by rw [hs]; omega), BitVec.sshiftRight_eq', BitVec.shiftLeft_eq', hs]
    rfl
  unfold blockScale
  show (FloatOps.sitofp (F := Ideal) FTy.f32 (shrsi (shli (k0_pay115 (F := Ideal) codes) (broadcast S40x128 sh)) (broadcast S40x128 24#32) (ix2 h l)) : EReal)
    * Scalar.select (cmpi .slt (addi k0_pay117 (broadcast S40x128 bp)) (broadcastTo S40x128 thr broadcasts_S1x128_S40x128) (ix2 h l))
        (broadcastTo S40x128 (shapeCast S1x128 (gathered row i0) shapeCasts_S1x128_S1x128) broadcasts_S1x128_S40x128 (ix2 h l))
        (broadcastTo S40x128 (shapeCast S1x128 (gathered row i1) shapeCasts_S1x128_S1x128) broadcasts_S1x128_S40x128 (ix2 h l)) + v0 = _
  rw [e1, below_apply (F := Ideal) h l b bp hbp thr, down_apply, down_apply, shapeCast_id, shapeCast_id, gathered_apply, gathered_apply, hc]
  rfl

/-- A stored scale at an index: the scale, whatever the row of the pair. -/
theorem packed_apply (a : FVec Ideal S40x128 .f32) (h : Fin 40) (e : Fin 2) (l : Fin 128) :
    (packed a (ValueIdx.ix5 0 0 h e l) : EReal) = a (ix2 h l) := by
  have key : ∀ k : S1x1x40x1x128.Idx, k = ValueIdx.ix5 0 0 h 0 l → (shapeCast S1x1x40x1x128 (shapeCast S1x1x40x128 (truncf (F := Ideal) .bf16 a bitsLt_bf16_f32)
      shapeCasts_S40x128_S1x1x40x128) shapeCasts_S1x1x40x128_S1x1x40x1x128 k : EReal) = a (ix2 h l) := by
    rintro k rfl
    rw [shapeCast_comp, shapeCast_apply _ _ _ (ix2 h l : S40x128.Idx) (by
      rw [rowMajor_val5 (d := ![1, 1, 40, 1, 128]) _ _ _ _ _ rfl rfl rfl rfl, rowMajor_val2 (d := ![40, 128]) _ _ rfl]
      show h.val * 128 + l.val = 0 * _ + 0 * _ + h.val * (1 * 128) + 0 * _ + l.val
      omega)]
    rfl
  unfold packed
  rw [interleaveRows_apply]
  split
  · refine key _ ?_
    funext b
    match b with
    | ⟨0, _⟩ => rfl
    | ⟨1, _⟩ => rfl
    | ⟨2, _⟩ => rfl
    | ⟨3, _⟩ => exact Subsingleton.elim (α := Fin 1) _ _
    | ⟨4, _⟩ => rfl
  · refine key _ ?_
    funext b
    match b with
    | ⟨0, _⟩ => rfl
    | ⟨1, _⟩ => rfl
    | ⟨2, _⟩ => rfl
    | ⟨3, _⟩ => exact Subsingleton.elim (α := Fin 1) _ _
    | ⟨4, _⟩ => rfl

/-- Where a quarter puts its entries. -/
theorem quarter_emb (p b : Fin 2) (h : Fin 40) (e : Fin 2) (l : Fin 128) :
    (quarter p b).emb (ValueIdx.ix5 (n0 := 1) (n1 := 1) 0 0 h e l) = ValueIdx.ix5 p b h e l := by
  funext a
  apply Fin.ext
  rw [ValueKit.rect_emb_unit_val]
  match a with
  | ⟨0, _⟩ => rfl
  | ⟨1, _⟩ => rfl
  | ⟨2, _⟩ => exact Nat.zero_add _
  | ⟨3, _⟩ => exact Nat.zero_add _
  | ⟨4, _⟩ => exact Nat.zero_add _

/-- A quarter just stored reads the stored scales. -/
theorem canon_here (p b : Fin 2) (a : FVec Ideal S40x128 .f32) (L : List (View.Piece (Elt Ideal) S2x2x40x2x128 .bf16)) (h : Fin 40) (e : Fin 2) (l : Fin 128) :
    (View.canon (quarterPiece p b a :: L) (ValueIdx.ix5 p b h e l) : EReal) = a (ix2 h l) := by
  rw [← quarter_emb]
  exact (View.canon_cons_emb (Val := Elt Ideal) (quarter p b) (packed a) L _).trans (packed_apply a h e l)

/-- Another quarter reads what was stored before. -/
theorem canon_there (p b p' b' : Fin 2) (hne : (p, b) ≠ (p', b')) (a : FVec Ideal S40x128 .f32) (L : List (View.Piece (Elt Ideal) S2x2x40x2x128 .bf16)) (h : Fin 40) (e : Fin 2) (l : Fin 128) :
    View.canon (quarterPiece p' b' a :: L) (ValueIdx.ix5 p b h e l) = View.canon L (ValueIdx.ix5 p b h e l) := by
  refine View.canon_cons_of_not_mem (quarterPiece p' b' a) L ?_
  intro hm
  have hm := (Rect.mem_set_unit (inb := quarter_inb p' b')).1 hm
  have h0 : p'.val ≤ p.val ∧ p.val < p'.val + 1 := hm 0
  have h1 : b'.val ≤ b.val ∧ b.val < b'.val + 1 := hm 1
  exact hne (Prod.ext (Fin.ext (by simp only []; omega)) (Fin.ext (by simp only []; omega)))

/-- An index of two is one or the other. -/
theorem two (p : Fin 2) : p = 0 ∨ p = 1 := by revert p; decide

/-- The scratch at an index. -/
theorem scratch_apply (v0 : Elt Ideal .f32) (codes : Vec Ideal S256x80 .i8) (row : Vec Ideal S1x128 .f32) (i0 i1 i2 i3 : Vec Ideal S8x128 .i32)
    (t0 t1 : Vec Ideal S1x128 .i32) (p b : Fin 2) (h : Fin 40) (e : Fin 2) (l : Fin 128)
    (o : Fin 256) (cc : Fin 80) (ho : o.val = 2 * l.val + p.val) (hc : cc.val = 2 * h.val + b.val) :
    (View.canon (scratch (F := Ideal) v0 (k0_pay115 (F := Ideal) codes) row i0 i1 i2 i3 t0 t1) (ValueIdx.ix5 p b h e l) : EReal)
      = Scalar.sitofp (F := Ideal) .f32 (BitVec.signExtend 32 (w := 8) (codes (ix2 o cc)))
          * Scalar.select (IntOp.cmpi .slt (BitVec.ofNat 32 cc.val) ((if p = 0 then t0 else t1) (ix2 0 l)))
              (row (ix2 0 ⟨BitVec.toNat (w := 32) ((if p = 0 then i0 else i1) (ix2 0 l)) % 128, Nat.mod_lt _ (by decide)⟩) : EReal)
              (row (ix2 0 ⟨BitVec.toNat (w := 32) ((if p = 0 then i2 else i3) (ix2 0 l)) % 128, Nat.mod_lt _ (by decide)⟩)) + v0 := by
  unfold scratch
  rcases two p with rfl | rfl <;> rcases two b with rfl | rfl
  · rw [canon_there 0 0 1 1 (by decide), canon_there 0 0 1 0 (by decide), canon_there 0 0 0 1 (by decide), canon_here]
    exact blockScale_apply v0 codes _ _ 0 0 rfl rfl row i0 i2 t0 h l o cc ho hc
  · rw [canon_there 0 1 1 1 (by decide), canon_there 0 1 1 0 (by decide), canon_here]
    exact blockScale_apply v0 codes _ _ 0 1 rfl rfl row i0 i2 t0 h l o cc ho hc
  · rw [canon_there 1 0 1 1 (by decide), canon_here]
    exact blockScale_apply v0 codes _ _ 1 0 rfl rfl row i1 i3 t1 h l o cc ho hc
  · rw [canon_here]
    exact blockScale_apply v0 codes _ _ 1 1 rfl rfl row i1 i3 t1 h l o cc ho hc

/-- A scale row of a chunk, read off the scratch. -/
theorem load_scale (arg10 : Memref sig .tc .vmem S2x2x40x2x128 .bf16) (L : List (View.Piece (Elt Ideal) S2x2x40x2x128 .bf16))
    (off : Fin 5 → ℕ) (inb : ∀ a, off a + S1x1x1x2x128.size a ≤ S2x2x40x2x128.size a) (p b : Fin 2) (h : Fin 40)
    (hoff : off = ![p.val, b.val, h.val, 0, 0]) (i : Fin 16) (l : Fin 128) :
    k0_pay5 (F := Ideal) (View.readAt (Elt Ideal) arg10.view (Rect.unit (s := S2x2x40x2x128) off S1x1x1x2x128.size inb).toLoadRect
      (arg10.view.writes (Elt Ideal) arg10.view.junk L)) (ix2 i l)
      = View.canon L (ValueIdx.ix5 p b h ⟨i.val % 2, Nat.mod_lt _ (by decide)⟩ l) := by
  subst hoff
  rw [scale_row_apply _ i l ⟨i.val % 2, Nat.mod_lt _ (by decide)⟩ rfl, View.readAt_writes_junk_eq_canon]
  refine congrArg (View.canon L) ?_
  funext a
  apply Fin.ext
  refine (ValueKit.rect_emb_unit_val (s := S2x2x40x2x128) _ _ inb _ a).trans ?_
  match a with
  | ⟨0, _⟩ => rfl
  | ⟨1, _⟩ => rfl
  | ⟨2, _⟩ => rfl
  | ⟨3, _⟩ => exact Nat.zero_add _
  | ⟨4, _⟩ => exact Nat.zero_add _

/-- The scale rows of the even outputs read the first half of the scratch. -/
theorem scaleEven_apply (arg10 : Memref sig .tc .vmem S2x2x40x2x128 .bf16) (L : List (View.Piece (Elt Ideal) S2x2x40x2x128 .bf16))
    (k : Fin k0_t2_loop.trips) (r : Fin 8) (i : Fin 16) (l : Fin 128) (b : Fin 2) (h : Fin 40)
    (hb : b.val = r.val / 2 % 2) (hh : h.val = 2 * k.val + r.val / 4) :
    scaleEven (F := Ideal) arg10 (arg10.view.writes (Elt Ideal) arg10.view.junk L) k r (ix2 i l)
      = View.canon L (ValueIdx.ix5 0 b h ⟨i.val % 2, Nat.mod_lt _ (by decide)⟩ l) := by
  match r with
  | ⟨0, _⟩ => obtain rfl : b = 0 := Fin.ext (by simpa using hb); exact load_scale arg10 L _ _ 0 0 h ((k0_off4_eq k 0).trans (by have e : h.val = 2 * k.val + 0 := (by simpa using hh); rw [e]; rfl)) i l
  | ⟨1, _⟩ => obtain rfl : b = 0 := Fin.ext (by simpa using hb); exact load_scale arg10 L _ _ 0 0 h ((k0_off4_eq k 0).trans (by have e : h.val = 2 * k.val + 0 := (by simpa using hh); rw [e]; rfl)) i l
  | ⟨2, _⟩ => obtain rfl : b = 1 := Fin.ext (by simpa using hb); exact load_scale arg10 L _ _ 0 1 h ((k0_off6_eq k 0).trans (by have e : h.val = 2 * k.val + 0 := (by simpa using hh); rw [e]; rfl)) i l
  | ⟨3, _⟩ => obtain rfl : b = 1 := Fin.ext (by simpa using hb); exact load_scale arg10 L _ _ 0 1 h ((k0_off6_eq k 0).trans (by have e : h.val = 2 * k.val + 0 := (by simpa using hh); rw [e]; rfl)) i l
  | ⟨4, _⟩ => obtain rfl : b = 0 := Fin.ext (by simpa using hb); exact load_scale arg10 L _ _ 0 0 h ((k0_off4_eq k 1).trans (by have e : h.val = 2 * k.val + 1 := (by simpa using hh); rw [e]; rfl)) i l
  | ⟨5, _⟩ => obtain rfl : b = 0 := Fin.ext (by simpa using hb); exact load_scale arg10 L _ _ 0 0 h ((k0_off4_eq k 1).trans (by have e : h.val = 2 * k.val + 1 := (by simpa using hh); rw [e]; rfl)) i l
  | ⟨6, _⟩ => obtain rfl : b = 1 := Fin.ext (by simpa using hb); exact load_scale arg10 L _ _ 0 1 h ((k0_off6_eq k 1).trans (by have e : h.val = 2 * k.val + 1 := (by simpa using hh); rw [e]; rfl)) i l
  | ⟨7, _⟩ => obtain rfl : b = 1 := Fin.ext (by simpa using hb); exact load_scale arg10 L _ _ 0 1 h ((k0_off6_eq k 1).trans (by have e : h.val = 2 * k.val + 1 := (by simpa using hh); rw [e]; rfl)) i l

/-- The scale rows of the odd outputs read the second half of the scratch. -/
theorem scaleOdd_apply (arg10 : Memref sig .tc .vmem S2x2x40x2x128 .bf16) (L : List (View.Piece (Elt Ideal) S2x2x40x2x128 .bf16))
    (k : Fin k0_t2_loop.trips) (r : Fin 8) (i : Fin 16) (l : Fin 128) (b : Fin 2) (h : Fin 40)
    (hb : b.val = r.val / 2 % 2) (hh : h.val = 2 * k.val + r.val / 4) :
    scaleOdd (F := Ideal) arg10 (arg10.view.writes (Elt Ideal) arg10.view.junk L) k r (ix2 i l)
      = View.canon L (ValueIdx.ix5 1 b h ⟨i.val % 2, Nat.mod_lt _ (by decide)⟩ l) := by
  match r with
  | ⟨0, _⟩ => obtain rfl : b = 0 := Fin.ext (by simpa using hb); exact load_scale arg10 L _ _ 1 0 h ((k0_off5_eq k 0).trans (by have e : h.val = 2 * k.val + 0 := (by simpa using hh); rw [e]; rfl)) i l
  | ⟨1, _⟩ => obtain rfl : b = 0 := Fin.ext (by simpa using hb); exact load_scale arg10 L _ _ 1 0 h ((k0_off5_eq k 0).trans (by have e : h.val = 2 * k.val + 0 := (by simpa using hh); rw [e]; rfl)) i l
  | ⟨2, _⟩ => obtain rfl : b = 1 := Fin.ext (by simpa using hb); exact load_scale arg10 L _ _ 1 1 h ((k0_off7_eq k 0).trans (by have e : h.val = 2 * k.val + 0 := (by simpa using hh); rw [e]; rfl)) i l
  | ⟨3, _⟩ => obtain rfl : b = 1 := Fin.ext (by simpa using hb); exact load_scale arg10 L _ _ 1 1 h ((k0_off7_eq k 0).trans (by have e : h.val = 2 * k.val + 0 := (by simpa using hh); rw [e]; rfl)) i l
  | ⟨4, _⟩ => obtain rfl : b = 0 := Fin.ext (by simpa using hb); exact load_scale arg10 L _ _ 1 0 h ((k0_off5_eq k 1).trans (by have e : h.val = 2 * k.val + 1 := (by simpa using hh); rw [e]; rfl)) i l
  | ⟨5, _⟩ => obtain rfl : b = 0 := Fin.ext (by simpa using hb); exact load_scale arg10 L _ _ 1 0 h ((k0_off5_eq k 1).trans (by have e : h.val = 2 * k.val + 1 := (by simpa using hh); rw [e]; rfl)) i l
  | ⟨6, _⟩ => obtain rfl : b = 1 := Fin.ext (by simpa using hb); exact load_scale arg10 L _ _ 1 1 h ((k0_off7_eq k 1).trans (by have e : h.val = 2 * k.val + 1 := (by simpa using hh); rw [e]; rfl)) i l
  | ⟨7, _⟩ => obtain rfl : b = 1 := Fin.ext (by simpa using hb); exact load_scale arg10 L _ _ 1 1 h ((k0_off7_eq k 1).trans (by have e : h.val = 2 * k.val + 1 := (by simpa using hh); rw [e]; rfl)) i l

end Cert.Proof.KernelIdeal

end
-- ==== Proof.IdealBlock.lean ====
/- The value of a group's accumulator at an index, as a double sum over chunks and over the rows of a chunk's block. -/
module

public import proofs.«01_k».proof.Proof.IdealScale

@[expose] public section

set_option maxRecDepth 16384
set_option maxHeartbeats 200000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- A load of a rank-2 box reads the buffer from the box's corner on. -/
theorem load2 {κ : Kind} {sp : Space} {m n a b : ℕ} {e : EltTy} (v : View sig κ sp ⟨2, ![m, n]⟩ e) (off : Fin 2 → ℕ)
    (inb : ∀ d, off d + (![a, b] : Fin 2 → ℕ) d ≤ (![m, n] : Fin 2 → ℕ) d) (X : BufTy.Contents (Elt F) v.ty) (r : Fin a) (q : Fin b)
    (R : Fin m) (Q : Fin n) (p0 p1 : ℕ) (hoff : off = ![p0, p1]) (hR : R.val = p0 + r.val) (hQ : Q.val = p1 + q.val) :
    View.readAt (Elt F) v (Rect.unit (s := ⟨2, ![m, n]⟩) off ![a, b] inb).toLoadRect X (ix2 r q) = v.read (Elt F) X (ix2 R Q) := by
  subst hoff
  rw [View.readAt_apply]
  refine congrArg _ ?_
  funext d
  apply Fin.ext
  refine (ValueKit.rect_emb_unit_val (s := ⟨2, ![m, n]⟩) _ _ inb _ d).trans ?_
  match d with
  | ⟨0, _⟩ => exact hR.symm
  | ⟨1, _⟩ => exact hQ.symm

/-- A half's pieces at an index, whatever decodes them. -/
theorem half_apply (dec : BitVec 32 → IVec S8x128 32 → FVec Ideal S16x128 .bf16) (w : IVec S64x128 32) (s : Fin 8 → FVec Ideal S16x128 .bf16)
    (kk : Fin 256) (l : Fin 128) (y : EReal)
    (hy : (dec (if kk.val < 128 then 4#32 else 0#32) (wordRows w ⟨kk.val % 128 / 16, by omega⟩) (ix2 ⟨kk.val % 16, Nat.mod_lt _ (by decide)⟩ l) : EReal) = y) :
    (stack (half dec w s) (ix2 kk l) : EReal) = y * s ⟨kk.val % 128 / 16, by omega⟩ (ix2 ⟨kk.val % 16, Nat.mod_lt _ (by decide)⟩ l) := by
  have hk := kk.isLt
  rw [stack_apply]
  subst hy
  have e1 : (⟨kk.val / 16 % 8, Nat.mod_lt _ (by decide)⟩ : Fin 8) = ⟨kk.val % 128 / 16, by omega⟩ := Fin.ext (by simp only []; omega)
  have e2 : (if kk.val / 16 < 8 then 4#32 else 0#32) = (if kk.val < 128 then 4#32 else 0#32) := by
    by_cases h : kk.val < 128
    · rw [if_pos h, if_pos (by omega)]
    · rw [if_neg h, if_neg (by omega)]
  unfold half
  show (dec (if kk.val / 16 < 8 then 4#32 else 0#32) (wordRows w ⟨kk.val / 16 % 8, Nat.mod_lt _ (by decide)⟩) _ : EReal)
    * s ⟨kk.val / 16 % 8, Nat.mod_lt _ (by decide)⟩ _ = _
  rw [e1, e2]

/-- One chunk at an index: output lane `n` stands for row `2 (n % 128) + n / 128`. -/
theorem chunk_apply {v1 v2 : Vec Ideal S32x128 .i8} {T1 T2 : Fin 16 → BitVec 8} (h1 : IsTable (F := Ideal) v1 T1) (h2 : IsTable (F := Ideal) v2 T2)
    (raw : Vec Ideal S256x128 .i8) (se so : Fin 8 → FVec Ideal S16x128 .bf16) (x : Vec Ideal S8x256 .bf16) (acc : FVec Ideal S8x256 .f32)
    (t : Fin 8) (n : Fin 256) (o : Fin 256) (ho : o.val = 2 * (n.val % 128) + n.val / 128) :
    (chunk v1 v2 k0_pay1 raw se so x acc (ix2 t n) : EReal) = acc (ix2 t n) + ∑ kk : Fin 256, (x (ix2 t kk) : EReal) *
      (val (F := Ideal) T1 T2 (nib (if kk.val < 128 then 4#32 else 0#32) (raw (ix2 o ⟨kk.val % 128, Nat.mod_lt _ (by decide)⟩)))
        * (if n.val / 128 = 0 then se else so) ⟨kk.val % 128 / 16, by omega⟩
            (ix2 ⟨kk.val % 16, Nat.mod_lt _ (by decide)⟩ ⟨n.val % 128, Nat.mod_lt _ (by decide)⟩)) := by
  have hn := n.isLt
  unfold chunk
  rw [product_apply]
  refine congrArg (fun z : EReal => (acc (ix2 t n) : EReal) + z) (Finset.sum_congr rfl fun kk _ => ?_)
  refine congrArg (fun z : EReal => (x (ix2 t kk) : EReal) * z) ?_
  have hk := kk.isLt
  have hsh : (if kk.val < 128 then 4#32 else 0#32) = 4#32 ∨ (if kk.val < 128 then 4#32 else 0#32) = 0#32 := by
    by_cases h : kk.val < 128
    · exact Or.inl (if_pos h)
    · exact Or.inr (if_neg h)
  by_cases h : n.val < 128
  · have el : (⟨n.val % 128, Nat.mod_lt _ (by decide)⟩ : Fin 128) = ⟨n.val, h⟩ := Fin.ext (Nat.mod_eq_of_lt h)
    have e0 : n.val / 128 = 0 := Nat.div_eq_of_lt h
    rw [dif_pos h, if_pos e0, el]
    refine half_apply (evens v1 v2 k0_pay1) (k0_pay3 raw) se kk ⟨n.val, h⟩ _ ?_
    exact evens_apply (F := Ideal) h1 h2 raw _ hsh _ _ _ o _ (by show o.val = 2 * n.val; omega) (by show kk.val % 128 = 16 * (kk.val % 128 / 16) + kk.val % 16; omega)
  · have el : (⟨n.val % 128, Nat.mod_lt _ (by decide)⟩ : Fin 128) = ⟨n.val - 128, by omega⟩ := Fin.ext (by show n.val % 128 = n.val - 128; omega)
    have e0 : ¬ n.val / 128 = 0 := by omega
    rw [dif_neg h, if_neg e0, el]
    refine half_apply (odds v1 v2 k0_pay1) (k0_pay3 raw) so kk ⟨n.val - 128, by omega⟩ _ ?_
    exact odds_apply (F := Ideal) h1 h2 raw _ hsh _ _ _ o _ (by show o.val = 2 * (n.val - 128) + 1; omega) (by show kk.val % 128 = 16 * (kk.val % 128 / 16) + kk.val % 16; omega)

end Cert.Proof.KernelIdeal

end
-- ==== Proof.IdealColumns.lean ====
/- Where a group's accumulator goes: column `i` of the group's 256 result columns is accumulator lane `128 (i % 2) + i / 2`. -/
module

public import proofs.«01_k».proof.Proof.IdealBlock

@[expose] public section

set_option maxRecDepth 16384
set_option maxHeartbeats 200000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- The lane index of every column. -/
abbrev lanes : IVec S8x128 32 := iota .tc S8x128 32 [1] iota_S8x128_d1_w32

/-- The group's lane for column `i`. -/
abbrev laneOf (i : Fin 256) : Fin 256 := ⟨128 * (i.val % 2) + i.val / 2, by have := i.isLt; omega⟩

/-- A gather along the lanes of a row. -/
theorem lane_gather (x : FVec F S8x128 .f32) (idx : IVec S8x128 32) (t : Fin 8) (i : Fin 128) (n : Fin 128)
    (hn : BitVec.toNat (w := 32) (idx (ix2 t i)) % 128 = n.val) :
    dynamicGather 1 x (shapeCast S8x128 (shapeCast S8x128x1 idx shapeCasts_S8x128_S8x128x1) shapeCasts_S8x128x1_S8x128) (ix2 t i) = x (ix2 t n) := by
  rw [dynamicGather_apply, shapeCast_comp, shapeCast_id]
  refine congrArg x ?_
  funext b
  match b with
  | ⟨0, _⟩ => rfl
  | ⟨1, _⟩ => exact Fin.ext hn

/-- The lane that a column of the left half gathers. -/
theorem left_lane (t : Fin 8) (i : Fin 128) :
    BitVec.toNat (w := 32) (addi (shrui lanes (broadcast S8x128 1#32)) (broadcast S8x128 0#32) (ix2 t i)) % 128 = i.val / 2 := by
  have : addi (shrui lanes (broadcast S8x128 1#32)) (broadcast S8x128 0#32) (ix2 t i)
      = IntOp.addi (IntOp.shrui .vector (BitVec.ofNat 32 (0 * 128 + i.val)) 1#32) 0#32 := rfl
  rw [this]
  clear this
  revert i
  decide

/-- The lane that a column of the right half gathers. -/
theorem right_lane (t : Fin 8) (i : Fin 128) :
    BitVec.toNat (w := 32) (addi (k0_pay138 lanes) (broadcast S8x128 64#32) (ix2 t i)) % 128 = i.val / 2 + 64 := by
  have : addi (k0_pay138 lanes) (broadcast S8x128 64#32) (ix2 t i)
      = IntOp.addi (IntOp.shrui .vector (BitVec.ofNat 32 (0 * 128 + i.val)) 1#32) 64#32 := rfl
  rw [this]
  clear this
  revert i
  decide

/-- Odd columns are selected from the second operand. -/
theorem odd_lane (t : Fin 8) (i : Fin 128) :
    cmpi .eq (andi lanes (broadcast S8x128 1#32)) (broadcast S8x128 1#32) (ix2 t i) = if i.val % 2 = 1 then 1#1 else 0#1 := by
  have : cmpi .eq (andi lanes (broadcast S8x128 1#32)) (broadcast S8x128 1#32) (ix2 t i)
      = IntOp.cmpi .eq (IntOp.andi (BitVec.ofNat 32 (0 * 128 + i.val)) 1#32) 1#32 := rfl
  rw [this]
  clear this
  revert i
  decide

/-- The even accumulator lanes. -/
theorem acc_left (A : FVec F S8x256 .f32) (t : Fin 8) (n : Fin 128) (N : Fin 256) (h : N.val = n.val) :
    k0_pay135 (F := F) A (ix2 t n) = A (ix2 t N) := by
  unfold k0_pay135
  exact extractStridedSlice_apply (s := S8x256) (t := S8x128) _ _ _ _ (ix2 t N) (by
    intro a
    match a with
    | ⟨0, _⟩ => exact (Nat.zero_add _).symm
    | ⟨1, _⟩ => exact h.trans (Nat.zero_add _).symm)

/-- The odd accumulator lanes. -/
theorem acc_right (A : FVec F S8x256 .f32) (t : Fin 8) (n : Fin 128) (N : Fin 256) (h : N.val = 128 + n.val) :
    k0_pay136 (F := F) A (ix2 t n) = A (ix2 t N) := by
  unfold k0_pay136
  exact extractStridedSlice_apply (s := S8x256) (t := S8x128) _ _ _ _ (ix2 t N) (by
    intro a
    match a with
    | ⟨0, _⟩ => exact (Nat.zero_add _).symm
    | ⟨1, _⟩ => exact h)

/-- The left 128 columns. -/
theorem left_columns (A : FVec Ideal S8x256 .f32) (t : Fin 8) (i : Fin 128) (j : Fin 256) (hj : j.val = i.val) :
    (k0_pay137 (F := Ideal) lanes A (ix2 t i) : EReal) = A (ix2 t (laneOf j)) := by
  have hi := i.isLt
  show (Scalar.select (cmpi .eq (andi lanes (broadcast S8x128 1#32)) (broadcast S8x128 1#32) (ix2 t i))
    (dynamicGather 1 (k0_pay136 (F := Ideal) A) (shapeCast S8x128 (shapeCast S8x128x1 (addi (shrui lanes (broadcast S8x128 1#32)) (broadcast S8x128 0#32)) shapeCasts_S8x128_S8x128x1) shapeCasts_S8x128x1_S8x128) (ix2 t i))
    (dynamicGather 1 (k0_pay135 (F := Ideal) A) (shapeCast S8x128 (shapeCast S8x128x1 (addi (shrui lanes (broadcast S8x128 1#32)) (broadcast S8x128 0#32)) shapeCasts_S8x128_S8x128x1) shapeCasts_S8x128x1_S8x128) (ix2 t i)) : EReal) = _
  rw [odd_lane, lane_gather (F := Ideal) _ _ t i ⟨i.val / 2, by omega⟩ (left_lane t i), lane_gather (F := Ideal) _ _ t i ⟨i.val / 2, by omega⟩ (left_lane t i)]
  by_cases h : i.val % 2 = 1
  · rw [if_pos h, scalar_one]
    exact acc_right (F := Ideal) A t _ _ (by show 128 * (j.val % 2) + j.val / 2 = 128 + i.val / 2; omega)
  · rw [if_neg h, scalar_zero]
    exact acc_left (F := Ideal) A t _ _ (by show 128 * (j.val % 2) + j.val / 2 = i.val / 2; omega)

/-- The right 128 columns. -/
theorem right_columns (A : FVec Ideal S8x256 .f32) (t : Fin 8) (i : Fin 128) (j : Fin 256) (hj : j.val = 128 + i.val) :
    (k0_pay2 (F := Ideal) (k0_pay135 A) (k0_pay136 A) (k0_pay138 lanes) (ix2 t i) : EReal) = A (ix2 t (laneOf j)) := by
  have hi := i.isLt
  show (Scalar.select (cmpi .eq (andi lanes (broadcast S8x128 1#32)) (broadcast S8x128 1#32) (ix2 t i))
    (dynamicGather 1 (k0_pay136 (F := Ideal) A) (shapeCast S8x128 (shapeCast S8x128x1 (addi (k0_pay138 lanes) (broadcast S8x128 64#32)) shapeCasts_S8x128_S8x128x1) shapeCasts_S8x128x1_S8x128) (ix2 t i))
    (dynamicGather 1 (k0_pay135 (F := Ideal) A) (shapeCast S8x128 (shapeCast S8x128x1 (addi (k0_pay138 lanes) (broadcast S8x128 64#32)) shapeCasts_S8x128_S8x128x1) shapeCasts_S8x128x1_S8x128) (ix2 t i)) : EReal) = _
  rw [odd_lane, lane_gather (F := Ideal) _ _ t i ⟨i.val / 2 + 64, by omega⟩ (right_lane t i), lane_gather (F := Ideal) _ _ t i ⟨i.val / 2 + 64, by omega⟩ (right_lane t i)]
  by_cases h : i.val % 2 = 1
  · rw [if_pos h, scalar_one]
    exact acc_right (F := Ideal) A t _ _ (by show 128 * (j.val % 2) + j.val / 2 = 128 + (i.val / 2 + 64); omega)
  · rw [if_neg h, scalar_zero]
    exact acc_left (F := Ideal) A t _ _ (by show 128 * (j.val % 2) + j.val / 2 = i.val / 2 + 64; omega)

/-- The rectangle of the columns from `off` on. -/
theorem column_mem (off : Fin 2 → ℕ) (inb : ∀ d, off d + S8x128.size d ≤ S8x1280.size d) (p : ℕ) (hoff : off = ![0, p])
    (t : Fin 8) (J : Fin 1280) : (ix2 t J : S8x1280.Idx) ∈ (Rect.unit (s := S8x1280) off S8x128.size inb).set ↔ p ≤ J.val ∧ J.val < p + 128 := by
  subst hoff
  rw [Rect.mem_set_unit]
  constructor
  · intro h; exact h 1
  · intro h d
    match d with
    | ⟨0, _⟩ => exact ⟨Nat.zero_le _, by have := t.isLt; show t.val < 0 + 8; omega⟩
    | ⟨1, _⟩ => exact h

/-- Reading a block under a store of 128 columns, at one of them. -/
theorem column_here (off : Fin 2 → ℕ) (inb : ∀ d, off d + S8x128.size d ≤ S8x1280.size d) (p : ℕ) (hoff : off = ![0, p])
    (w : FVec Ideal S8x128 .bf16) (L : List (View.Piece (Elt Ideal) S8x1280 .bf16)) (t : Fin 8) (i : Fin 128) (J : Fin 1280) (hJ : J.val = p + i.val) :
    View.canon (⟨Rect.unit (s := S8x1280) off S8x128.size inb, w⟩ :: L) (ix2 t J) = w (ix2 t i) := by
  subst hoff
  have e : (Rect.unit (s := S8x1280) ![0, p] S8x128.size inb).emb (ix2 t i : S8x128.Idx) = ix2 t J := by
    funext a
    apply Fin.ext
    refine (ValueKit.rect_emb_unit_val (s := S8x1280) _ _ inb _ a).trans ?_
    match a with
    | ⟨0, _⟩ => exact Nat.zero_add _
    | ⟨1, _⟩ => exact hJ.symm
  rw [← e]
  exact View.canon_cons_emb (Val := Elt Ideal) (Rect.unit (s := S8x1280) ![0, p] S8x128.size inb) w L _

/-- A group's pieces at one of its 256 columns: an accumulator lane. -/
theorem group_columns (k : Fin k0_t1_loop.trips) (A : FVec Ideal S8x256 .f32) (L : List (View.Piece (Elt Ideal) S8x1280 .bf16))
    (t : Fin 8) (j : Fin 256) (J : Fin 1280) (hJ : J.val = 256 * k.val + j.val) :
    (View.canon (groupPieces (F := Ideal) lanes k A ++ L) (ix2 t J) : EReal) = A (ix2 t (laneOf j)) := by
  have hj := j.isLt
  have e1 := k0_off9_eq k 1
  have e0 := k0_off9_eq k 0
  unfold groupPieces
  by_cases h : j.val < 128
  · refine (congrArg (fun z : EReal => z) (View.canon_cons_of_not_mem (Val := Elt Ideal) _ _ (fun hm => ?_))).trans ?_
    · have := (column_mem _ (k0_off9_inb k 1) _ e1 t J).1 hm
      have h1 : 256 * k.val + 128 * 1 ≤ J.val := this.1
      omega
    · refine (column_here _ (k0_off9_inb k 0) _ e0 _ _ t ⟨j.val, h⟩ J (by show J.val = 256 * k.val + 128 * 0 + j.val; omega)).trans ?_
      exact left_columns A t _ j rfl
  · refine (column_here _ (k0_off9_inb k 1) _ e1 _ _ t ⟨j.val - 128, by omega⟩ J (by show J.val = 256 * k.val + 128 * 1 + (j.val - 128); omega)).trans ?_
    exact right_columns A t _ j (by show j.val = 128 + (j.val - 128); omega)

/-- At another column a group's pieces leave what was there. -/
theorem group_other (k : Fin k0_t1_loop.trips) (A : FVec Ideal S8x256 .f32) (L : List (View.Piece (Elt Ideal) S8x1280 .bf16))
    (t : Fin 8) (J : Fin 1280) (hJ : J.val < 256 * k.val) :
    View.canon (groupPieces (F := Ideal) lanes k A ++ L) (ix2 t J) = View.canon L (ix2 t J) := by
  have e1 := k0_off9_eq k 1
  have e0 := k0_off9_eq k 0
  unfold groupPieces
  refine (View.canon_cons_of_not_mem (Val := Elt Ideal) _ _ (fun hm => ?_)).trans (View.canon_cons_of_not_mem (Val := Elt Ideal) _ _ (fun hm => ?_))
  · have h1 : 256 * k.val + 128 * 1 ≤ J.val := ((column_mem _ (k0_off9_inb k 1) _ e1 t J).1 hm).1
    omega
  · have h1 : 256 * k.val + 128 * 0 ≤ J.val := ((column_mem _ (k0_off9_inb k 0) _ e0 t J).1 hm).1
    omega

/-- A column of a group lies under its pieces. -/
theorem group_mem (k : Fin k0_t1_loop.trips) (A : FVec F S8x256 .f32) (t : Fin 8) (J : Fin 1280) (h0 : 256 * k.val ≤ J.val) (h1 : J.val < 256 * k.val + 256) :
    ∃ p ∈ groupPieces (F := F) lanes k A, (ix2 t J : S8x1280.Idx) ∈ p.1.set := by
  have e1 := k0_off9_eq k 1
  have e0 := k0_off9_eq k 0
  unfold groupPieces
  by_cases h : J.val < 256 * k.val + 128
  · exact ⟨_, List.mem_cons_of_mem _ (List.mem_cons_self), (column_mem _ (k0_off9_inb k 0) _ e0 t J).2 ⟨by show 256 * k.val + 128 * 0 ≤ J.val; omega, by show J.val < 256 * k.val + 128 * 0 + 128; omega⟩⟩
  · exact ⟨_, List.mem_cons_self, (column_mem _ (k0_off9_inb k 1) _ e1 t J).2 ⟨by show 256 * k.val + 128 * 1 ≤ J.val; omega, by show J.val < 256 * k.val + 128 * 1 + 128; omega⟩⟩

end Cert.Proof.KernelIdeal

end
-- ==== Proof.IdealEntry.lean ====
/- What a group's accumulator holds: entry by entry the double sum over chunks and rows, in terms of the step's input blocks. -/
module

public import proofs.«01_k».proof.Proof.IdealBlock

@[expose] public section

set_option maxRecDepth 16384
set_option maxHeartbeats 200000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- A scale from its parts: code times the entry of the scale row that the threshold chooses, plus the offset `v0`. -/
def blockScaleWith (v0 : EReal) (x5 : Vec Ideal S75x128 .f32) (srow : Fin 75) (code : BitVec 8) (cc : ℕ) (thr lo hi : BitVec 32) : EReal :=
  Scalar.sitofp (F := Ideal) .f32 (BitVec.signExtend 32 code)
    * Scalar.select (IntOp.cmpi .slt (BitVec.ofNat 32 cc) thr)
        (x5 (ix2 srow ⟨lo.toNat % 128, Nat.mod_lt _ (by decide)⟩) : EReal) (x5 (ix2 srow ⟨hi.toNat % 128, Nat.mod_lt _ (by decide)⟩)) + v0

/-- The scale of weight row `R` and block `cc`; `srow` is the row of the scale table. -/
def blockScaleAt (v0 : EReal) (x4 : Vec Ideal S1280x80 .i8) (x5 : Vec Ideal S75x128 .f32) (x6 : Vec Ideal S32x128 .i32) (x7 : Vec Ideal S2x128 .i32)
    (srow : Fin 75) (R : Fin 1280) (cc : Fin 80) : EReal :=
  blockScaleWith v0 x5 srow (x4 (ix2 R cc)) cc.val
    (x7 (ix2 ⟨R.val % 2, Nat.mod_lt _ (by decide)⟩ ⟨R.val % 256 / 2, by omega⟩))
    (x6 (ix2 ⟨8 * (R.val % 2), by omega⟩ ⟨R.val % 256 / 2, by omega⟩))
    (x6 (ix2 ⟨16 + 8 * (R.val % 2), by omega⟩ ⟨R.val % 256 / 2, by omega⟩))

/-- What chunk `c` adds to the result of token `t` and weight row `R`. -/
def chunkTerm (v0 : EReal) (T1 T2 : Fin 16 → BitVec 8) (x2 : Vec Ideal S8x5120 .bf16) (x3 : Vec Ideal S1280x2560 .i8) (x4 : Vec Ideal S1280x80 .i8)
    (x5 : Vec Ideal S75x128 .f32) (x6 : Vec Ideal S32x128 .i32) (x7 : Vec Ideal S2x128 .i32) (srow : Fin 75) (t : Fin 8) (R : Fin 1280) (c : ℕ) : EReal :=
  ∑ kk : Fin 256, (x2 (ix2 t ⟨(256 * c + kk.val) % 5120, Nat.mod_lt _ (by decide)⟩) : EReal) *
    (val (F := Ideal) T1 T2 (nib (if kk.val < 128 then 4#32 else 0#32) (x3 (ix2 R ⟨(128 * c + kk.val % 128) % 2560, Nat.mod_lt _ (by decide)⟩)))
      * blockScaleAt v0 x4 x5 x6 x7 srow R ⟨(4 * c + kk.val % 128 / 32) % 80, Nat.mod_lt _ (by decide)⟩)

section Loop

variable (i : grid0.Coords)
  (arg2 : Memref sig .tc .vmem S8x5120 .bf16) (arg3 : Memref sig .tc .vmem S1280x2560 .i8)
  (arg4 : Memref sig .tc .vmem S1280x80 .i8) (arg5 : Memref sig .tc .vmem S75x128 .f32)
  (arg6 : Memref sig .tc .vmem S32x128 .i32) (arg7 : Memref sig .tc .vmem S2x128 .i32)
  (arg10 : Memref sig .tc .vmem S2x2x40x2x128 .bf16)
  (v0 : Elt Ideal .f32) {v1 : Vec Ideal S32x128 .i8} {v2 : Vec Ideal S32x128 .i8}
  (X2 : BufTy.Contents (Elt Ideal) arg2.view.ty)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X7 : BufTy.Contents (Elt Ideal) arg7.view.ty)

/-- The scratch of group `g` at an index: the scale of a row and a block. -/
theorem group_scratch_apply (g : Fin k0_t1_loop.trips) (p b : Fin 2) (h : Fin 40) (e : Fin 2) (l : Fin 128) (srow : Fin 75)
    (hs : srow.val = 5 * (i 0).val + g.val) (R : Fin 1280) (hR : R.val = 256 * g.val + (2 * l.val + p.val)) (cc : Fin 80) (hc : cc.val = 2 * h.val + b.val) :
    (View.canon (groupScratch (F := Ideal) i arg4 arg5 arg6 arg7 v0 X4 X5 X6 X7 g) (ValueIdx.ix5 p b h e l) : EReal)
      = blockScaleAt v0 (arg4.view.read (Elt Ideal) X4) (arg5.view.read (Elt Ideal) X5) (arg6.view.read (Elt Ideal) X6) (arg7.view.read (Elt Ideal) X7) srow R cc := by
  have hl := l.isLt
  have hp := p.isLt
  unfold groupScratch
  rw [scratch_apply v0 _ _ _ _ _ _ _ _ p b h e l ⟨2 * l.val + p.val, by omega⟩ cc rfl hc]
  rw [load2 arg4.view _ _ X4 _ cc R cc _ _ (k0_off1_eq g) (by show R.val = 256 * g.val + _; omega) (by show cc.val = 0 + _; omega)]
  rw [load2 arg5.view _ _ X5 0 _ srow _ _ _ (k0_off2_eq i g) (by show srow.val = _ + 0; omega) (Nat.zero_add _).symm]
  rw [load2 arg5.view _ _ X5 0 _ srow _ _ _ (k0_off2_eq i g) (by show srow.val = _ + 0; omega) (Nat.zero_add _).symm]
  have glue : ∀ {a a' b b' d d' : BitVec 32}, a = a' → b = b' → d = d' →
      blockScaleWith v0 (arg5.view.read (Elt Ideal) X5) srow (arg4.view.read (Elt Ideal) X4 (ix2 R cc)) cc.val a b d
        = blockScaleWith v0 (arg5.view.read (Elt Ideal) X5) srow (arg4.view.read (Elt Ideal) X4 (ix2 R cc)) cc.val a' b' d' := by
    rintro _ _ _ _ _ _ rfl rfl rfl; rfl
  refine glue (a' := arg7.view.read (Elt Ideal) X7 (ix2 ⟨R.val % 2, Nat.mod_lt _ (by decide)⟩ ⟨R.val % 256 / 2, by omega⟩))
    (b' := arg6.view.read (Elt Ideal) X6 (ix2 ⟨8 * (R.val % 2), by omega⟩ ⟨R.val % 256 / 2, by omega⟩))
    (d' := arg6.view.read (Elt Ideal) X6 (ix2 ⟨16 + 8 * (R.val % 2), by omega⟩ ⟨R.val % 256 / 2, by omega⟩)) ?_ ?_ ?_
  · rcases two p with rfl | rfl
    · rw [if_pos rfl]
      exact load2 arg7.view _ _ X7 0 l _ _ 0 0 rfl (by show R.val % 2 = 0; have hp : (0 : Fin 2).val = 0 := rfl; omega) (by show R.val % 256 / 2 = 0 + l.val; have hp : (0 : Fin 2).val = 0 := rfl; omega)
    · rw [if_neg (by decide)]
      exact load2 arg7.view _ _ X7 0 l _ _ 1 0 rfl (by show R.val % 2 = 1; have hp : (1 : Fin 2).val = 1 := rfl; omega) (by show R.val % 256 / 2 = 0 + l.val; have hp : (1 : Fin 2).val = 1 := rfl; omega)
  · rcases two p with rfl | rfl
    · rw [if_pos rfl]
      exact load2 arg6.view _ _ X6 0 l _ _ 0 0 rfl (by show 8 * (R.val % 2) = 0; have hp : (0 : Fin 2).val = 0 := rfl; omega) (by show R.val % 256 / 2 = 0 + l.val; have hp : (0 : Fin 2).val = 0 := rfl; omega)
    · rw [if_neg (by decide)]
      exact load2 arg6.view _ _ X6 0 l _ _ 8 0 rfl (by show 8 * (R.val % 2) = 8; have hp : (1 : Fin 2).val = 1 := rfl; omega) (by show R.val % 256 / 2 = 0 + l.val; have hp : (1 : Fin 2).val = 1 := rfl; omega)
  · rcases two p with rfl | rfl
    · rw [if_pos rfl]
      exact load2 arg6.view _ _ X6 0 l _ _ 16 0 rfl (by show 16 + 8 * (R.val % 2) = 16; have hp : (0 : Fin 2).val = 0 := rfl; omega) (by show R.val % 256 / 2 = 0 + l.val; have hp : (0 : Fin 2).val = 0 := rfl; omega)
    · rw [if_neg (by decide)]
      exact load2 arg6.view _ _ X6 0 l _ _ 24 0 rfl (by show 16 + 8 * (R.val % 2) = 24; have hp : (1 : Fin 2).val = 1 := rfl; omega) (by show R.val % 256 / 2 = 0 + l.val; have hp : (1 : Fin 2).val = 1 := rfl; omega)

/-- The accumulator of group `g` after `n` chunks. -/
theorem groupAcc_apply {T1 T2 : Fin 16 → BitVec 8} (h1 : IsTable (F := Ideal) v1 T1) (h2 : IsTable (F := Ideal) v2 T2)
    (g : Fin k0_t1_loop.trips) (srow : Fin 75) (hs : srow.val = 5 * (i 0).val + g.val) (t : Fin 8) (N : Fin 256) (R : Fin 1280)
    (hR : R.val = 256 * g.val + (2 * (N.val % 128) + N.val / 128)) :
    ∀ n, n ≤ k0_t2_loop.trips →
      (groupAcc (F := Ideal) arg2 arg3 arg10 v1 v2 X2 X3 (arg10.view.writes (Elt Ideal) arg10.view.junk (groupScratch i arg4 arg5 arg6 arg7 v0 X4 X5 X6 X7 g)) g n (ix2 t N) : EReal)
        = ∑ c ∈ Finset.range n, chunkTerm v0 T1 T2 (arg2.view.read (Elt Ideal) X2) (arg3.view.read (Elt Ideal) X3) (arg4.view.read (Elt Ideal) X4)
            (arg5.view.read (Elt Ideal) X5) (arg6.view.read (Elt Ideal) X6) (arg7.view.read (Elt Ideal) X7) srow t R c
  | 0, _ => by
    rw [Finset.sum_range_zero]
    exact Ideal.ofBits_zero_f32
  | n + 1, h => by
    have hn : n < k0_t2_loop.trips := h
    have hn20 : n < 20 := Nat.lt_of_lt_of_le hn k0_t2_abs.2.1
    have hN := N.isLt
    rw [Finset.sum_range_succ, ← groupAcc_apply h1 h2 g srow hs t N R hR n (Nat.le_of_lt hn)]
    rw [groupAcc, dif_pos hn]
    rw [chunk_apply h1 h2 _ _ _ _ _ t N ⟨2 * (N.val % 128) + N.val / 128, by omega⟩ rfl]
    refine congrArg (fun z : EReal => _ + z) ?_
    unfold chunkTerm
    refine Finset.sum_congr rfl fun kk _ => ?_
    have hk := kk.isLt
    have key : ∀ q : Fin 2, q.val = N.val / 128 →
        ((if N.val / 128 = 0 then scaleEven (F := Ideal) arg10 (arg10.view.writes (Elt Ideal) arg10.view.junk (groupScratch i arg4 arg5 arg6 arg7 v0 X4 X5 X6 X7 g)) ⟨n, hn⟩
            else scaleOdd arg10 (arg10.view.writes (Elt Ideal) arg10.view.junk (groupScratch i arg4 arg5 arg6 arg7 v0 X4 X5 X6 X7 g)) ⟨n, hn⟩)
          ⟨kk.val % 128 / 16, by omega⟩ (ix2 ⟨kk.val % 16, Nat.mod_lt _ (by decide)⟩ ⟨N.val % 128, Nat.mod_lt _ (by decide)⟩) : EReal)
        = View.canon (groupScratch (F := Ideal) i arg4 arg5 arg6 arg7 v0 X4 X5 X6 X7 g)
            (ValueIdx.ix5 q ⟨kk.val % 128 / 16 / 2 % 2, Nat.mod_lt _ (by decide)⟩ ⟨2 * n + kk.val % 128 / 16 / 4, by omega⟩ ⟨kk.val % 16 % 2, Nat.mod_lt _ (by decide)⟩ ⟨N.val % 128, Nat.mod_lt _ (by decide)⟩) := by
      intro q hq
      rcases two q with rfl | rfl
      · rw [if_pos (show N.val / 128 = 0 from hq.symm)]; exact scaleEven_apply arg10 _ _ _ _ _ _ _ rfl rfl
      · rw [if_neg (by rw [← hq]; decide)]; exact scaleOdd_apply arg10 _ _ _ _ _ _ _ rfl rfl
    rw [key ⟨N.val / 128, by omega⟩ rfl,
      group_scratch_apply i arg4 arg5 arg6 arg7 v0 X4 X5 X6 X7 g _ _ _ _ _ srow hs R hR ⟨(4 * n + kk.val % 128 / 32) % 80, Nat.mod_lt _ (by decide)⟩
        (by show (4 * n + kk.val % 128 / 32) % 80 = 2 * (2 * n + kk.val % 128 / 16 / 4) + kk.val % 128 / 16 / 2 % 2; omega)]
    rw [load2 arg2.view _ _ X2 t kk t ⟨(256 * n + kk.val) % 5120, Nat.mod_lt _ (by decide)⟩ _ _ (k0_off8_eq _) (Nat.zero_add _).symm
        (by show (256 * n + kk.val) % 5120 = 256 * n + kk.val; omega),
      load2 arg3.view _ _ X3 _ _ R ⟨(128 * n + kk.val % 128) % 2560, Nat.mod_lt _ (by decide)⟩ _ _ (k0_off3_eq _ _) hR
        (by show (128 * n + kk.val % 128) % 2560 = 128 * n + kk.val % 128; omega)]

end Loop

end Cert.Proof.KernelIdeal

end
-- ==== Proof.IdealStep.lean ====
/- What a grid step leaves in its result block: entry by entry the double sum of `chunkTerm`. -/
module

public import proofs.«01_k».proof.Proof.IdealColumns
public import proofs.«01_k».proof.Proof.IdealEntry
public import proofs.«01_k».proof.Proof.IdealFrame

@[expose] public section

set_option maxRecDepth 16384
set_option maxHeartbeats 200000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe
open Idealize.SL

variable {F : FTy → Type} [FloatOps F]

/-- The result of token `t` and row `J` of a step's block, from the step's input blocks; `q` is the step. -/
def stepEntry (v0 : EReal) (T1 T2 : Fin 16 → BitVec 8) (x2 : Vec Ideal S8x5120 .bf16) (x3 : Vec Ideal S1280x2560 .i8) (x4 : Vec Ideal S1280x80 .i8)
    (x5 : Vec Ideal S75x128 .f32) (x6 : Vec Ideal S32x128 .i32) (x7 : Vec Ideal S2x128 .i32) (q : ℕ) (t : Fin 8) (J : Fin 1280) : EReal :=
  ∑ c ∈ Finset.range 20, chunkTerm v0 T1 T2 x2 x3 x4 x5 x6 x7 ⟨(5 * q + J.val / 256) % 75, Nat.mod_lt _ (by decide)⟩ t J c

/-- There are five groups in a step. -/
theorem trips1 : k0_t1_loop.trips = 5 := by decide
/-- There are twenty chunks in a group. -/
theorem trips2 : k0_t2_loop.trips = 20 := by decide

section Loop

variable (c : Dev nD) (i : grid0.Coords)
  (arg1 : Memref sig .tc .smem S1x1 .f32) (harg1 : arg1.IsWhole)
  (arg2 : Memref sig .tc .vmem S8x5120 .bf16) (harg2 : arg2.IsWhole)
  (arg3 : Memref sig .tc .vmem S1280x2560 .i8) (harg3 : arg3.IsWhole)
  (arg4 : Memref sig .tc .vmem S1280x80 .i8) (harg4 : arg4.IsWhole)
  (arg5 : Memref sig .tc .vmem S75x128 .f32) (harg5 : arg5.IsWhole)
  (arg6 : Memref sig .tc .vmem S32x128 .i32) (harg6 : arg6.IsWhole)
  (arg7 : Memref sig .tc .vmem S2x128 .i32) (harg7 : arg7.IsWhole)
  (arg8 : Memref sig .tc .vmem S64x128 .i8) (harg8 : arg8.IsWhole)
  (arg9 : Memref sig .tc .vmem S8x1280 .bf16) (harg9 : arg9.IsWhole)
  (arg10 : Memref sig .tc .vmem S2x2x40x2x128 .bf16) (harg10 : arg10.IsWhole)

/-- The pieces of the first `n` groups, at a column of one of them. -/
theorem groups_apply (arg0 : BitVec 32)
    (v0 : Elt Ideal .f32) {v1 : Vec Ideal S32x128 .i8} {v2 : Vec Ideal S32x128 .i8}
    {T1 T2 : Fin 16 → BitVec 8} (h1 : IsTable (F := Ideal) v1 T1) (h2 : IsTable (F := Ideal) v2 T2)
    (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty)
    (t : Fin 8) (J : Fin 1280) :
    ∀ n, n ≤ k0_t1_loop.trips → J.val < 256 * n →
      ((View.canon (pb (F := Ideal) c i arg1 harg1 arg2 harg2 arg3 harg3 arg4 harg4 arg5 harg5 arg6 harg6 arg7 harg7 arg8 harg8 arg9 harg9 arg10 harg10 arg0 v0 v1 v2 lanes X2 X3 X4 X5 X6 X7 n) (ix2 t J) : EReal)
        = stepEntry v0 T1 T2 (arg2.view.read (Elt Ideal) X2) (arg3.view.read (Elt Ideal) X3) (arg4.view.read (Elt Ideal) X4)
            (arg5.view.read (Elt Ideal) X5) (arg6.view.read (Elt Ideal) X6) (arg7.view.read (Elt Ideal) X7) (i 0).val t J)
      ∧ ∃ p ∈ pb (F := Ideal) c i arg1 harg1 arg2 harg2 arg3 harg3 arg4 harg4 arg5 harg5 arg6 harg6 arg7 harg7 arg8 harg8 arg9 harg9 arg10 harg10 arg0 v0 v1 v2 lanes X2 X3 X4 X5 X6 X7 n, (ix2 t J : S8x1280.Idx) ∈ p.1.set
  | 0, _, h => absurd h (Nat.not_lt_zero _)
  | n + 1, hn, h => by
    have hi : (i 0).val < 15 := (i 0).isLt
    have hn5 : n < 5 := by have := hn; rw [trips1] at this; omega
    rw [pb_succ (F := Ideal) c i arg1 harg1 arg2 harg2 arg3 harg3 arg4 harg4 arg5 harg5 arg6 harg6 arg7 harg7 arg8 harg8 arg9 harg9 arg10 harg10 arg0 v0 v1 v2 lanes X2 X3 X4 X5 X6 X7 ⟨n, hn⟩,
      group_eq (F := Ideal)]
    by_cases hJ : J.val < 256 * n
    · obtain ⟨e, p, hp, hm⟩ := groups_apply arg0 v0 h1 h2 X2 X3 X4 X5 X6 X7 t J n (Nat.le_of_lt hn) hJ
      refine ⟨?_, p, List.mem_append_right _ hp, hm⟩
      exact (congrArg (fun z : EReal => z) (group_other ⟨n, hn⟩ _ _ t J hJ)).trans e
    · refine ⟨?_, ?_⟩
      · refine (group_columns ⟨n, hn⟩ _ _ t ⟨J.val - 256 * n, by omega⟩ J (by show J.val = 256 * n + (J.val - 256 * n); omega)).trans ?_
        rw [groupAcc_apply i arg2 arg3 arg4 arg5 arg6 arg7 arg10 v0 X2 X3 X4 X5 X6 X7 h1 h2 ⟨n, hn⟩ ⟨(5 * (i 0).val + J.val / 256) % 75, Nat.mod_lt _ (by decide)⟩
          (by show (5 * (i 0).val + J.val / 256) % 75 = 5 * (i 0).val + n; omega) t _ J
          (by show J.val = 256 * n + (2 * ((128 * ((J.val - 256 * n) % 2) + (J.val - 256 * n) / 2) % 128) + (128 * ((J.val - 256 * n) % 2) + (J.val - 256 * n) / 2) / 128); omega)
          _ (Nat.le_refl _)]
        unfold stepEntry
        rw [trips2]
      · obtain ⟨p, hp, hm⟩ := group_mem (F := Ideal) ⟨n, hn⟩ (groupAcc (F := Ideal) arg2 arg3 arg10 v1 v2 X2 X3
          (arg10.view.writes (Elt Ideal) arg10.view.junk (groupScratch i arg4 arg5 arg6 arg7 v0 X4 X5 X6 X7 ⟨n, hn⟩)) ⟨n, hn⟩ k0_t2_loop.trips) t J (by show 256 * n ≤ J.val; omega) (by show J.val < 256 * n + 256; omega)
        exact ⟨p, List.mem_append_left _ hp, hm⟩

/-- The pieces of a whole step are those of its five groups. -/
theorem body_pieces (x1 : Vec Ideal S1x1 .f32) (x2 : Vec Ideal S8x5120 .bf16) (x3 : Vec Ideal S1280x2560 .i8) (x4 : Vec Ideal S1280x80 .i8)
    (x5 : Vec Ideal S75x128 .f32) (x6 : Vec Ideal S32x128 .i32) (x7 : Vec Ideal S2x128 .i32) (x8 : Vec Ideal S64x128 .i8) :
    ∃ (arg0 : BitVec 32) (v0 : Elt Ideal .f32), v0 = x1 (ix2 0 0) ∧ (bodyRun (F := Ideal) c i arg1 harg1 arg2 harg2 arg3 harg3 arg4 harg4 arg5 harg5 arg6 harg6 arg7 harg7 arg8 harg8 arg9 harg9 arg10 harg10 x1 x2 x3 x4 x5 x6 x7 x8).1
      = pb (F := Ideal) c i arg1 harg1 arg2 harg2 arg3 harg3 arg4 harg4 arg5 harg5 arg6 harg6 arg7 harg7 arg8 harg8 arg9 harg9 arg10 harg10 arg0 v0
          (View.readAt (Elt Ideal) arg8.view (Rect.unit (s := S64x128) ![0, 0] S32x128.size (by decide)).toLoadRect (harg8.unread x8))
          (View.readAt (Elt Ideal) arg8.view (Rect.unit (s := S64x128) ![32, 0] S32x128.size (by decide)).toLoadRect (harg8.unread x8))
          lanes (harg2.unread x2) (harg3.unread x3) (harg4.unread x4) (harg5.unread x5) (harg6.unread x6) (harg7.unread x7) k0_t1_loop.trips := by
  unfold bodyRun
  refine ⟨_, _, ?_, rfl⟩
  refine Eq.trans ?_ (congrFun (harg1.read_unread x1) (ix2 0 0))
  have one : ∀ j : S1x1.Idx, j = ix2 0 0 := fun j => funext fun a => by
    match a with
    | ⟨0, _⟩ => exact Subsingleton.elim (α := Fin 1) _ _
    | ⟨1, _⟩ => exact Subsingleton.elim (α := Fin 1) _ _
  unfold bodyRun.sl.r
  exact congrArg (arg1.view.read (Elt Ideal) (harg1.unread x1)) (one _)

/-- The step's result block, read back: entry `(t, J)` is the double sum. -/
theorem body_value (x1 : Vec Ideal S1x1 .f32) (x2 : Vec Ideal S8x5120 .bf16) (x3 : Vec Ideal S1280x2560 .i8) (x4 : Vec Ideal S1280x80 .i8)
    (x5 : Vec Ideal S75x128 .f32) (x6 : Vec Ideal S32x128 .i32) (x7 : Vec Ideal S2x128 .i32) (x8 : Vec Ideal S64x128 .i8)
    {T1 T2 : Fin 16 → BitVec 8}
    (h1 : ∀ (n : Fin 32) (l : Fin 128), x8 (ix2 ⟨n.val, by omega⟩ l) = T1 ⟨n.val % 16, Nat.mod_lt _ (by decide)⟩)
    (h2 : ∀ (n : Fin 32) (l : Fin 128), x8 (ix2 ⟨32 + n.val, by omega⟩ l) = T2 ⟨n.val % 16, Nat.mod_lt _ (by decide)⟩)
    (f9 : BufTy.Contents (Elt Ideal) arg9.view.ty) (t : Fin 8) (J : Fin 1280) :
    (arg9.view.read (Elt Ideal) (arg9.view.writes (Elt Ideal) f9
      (bodyRun (F := Ideal) c i arg1 harg1 arg2 harg2 arg3 harg3 arg4 harg4 arg5 harg5 arg6 harg6 arg7 harg7 arg8 harg8 arg9 harg9 arg10 harg10 x1 x2 x3 x4 x5 x6 x7 x8).1) (ix2 t J) : EReal)
      = stepEntry (x1 (ix2 0 0)) T1 T2 x2 x3 x4 x5 x6 x7 (i 0).val t J := by
  obtain ⟨arg0, v0, hv, e⟩ := body_pieces c i arg1 harg1 arg2 harg2 arg3 harg3 arg4 harg4 arg5 harg5 arg6 harg6 arg7 harg7 arg8 harg8 arg9 harg9 arg10 harg10 x1 x2 x3 x4 x5 x6 x7 x8
  have t1 : IsTable (F := Ideal) (View.readAt (Elt Ideal) arg8.view (Rect.unit (s := S64x128) ![0, 0] S32x128.size (by decide)).toLoadRect (harg8.unread x8)) T1 := fun n l => by
    refine (load2 arg8.view _ _ _ n l ⟨n.val, by omega⟩ l 0 0 rfl (Nat.zero_add _).symm (Nat.zero_add _).symm).trans ?_
    rw [harg8.read_unread]; exact h1 n l
  have t2 : IsTable (F := Ideal) (View.readAt (Elt Ideal) arg8.view (Rect.unit (s := S64x128) ![32, 0] S32x128.size (by decide)).toLoadRect (harg8.unread x8)) T2 := fun n l => by
    refine (load2 arg8.view _ _ _ n l ⟨32 + n.val, by omega⟩ l 32 0 rfl rfl (Nat.zero_add _).symm).trans ?_
    rw [harg8.read_unread]; exact h2 n l
  obtain ⟨ev, hm⟩ := groups_apply c i arg1 harg1 arg2 harg2 arg3 harg3 arg4 harg4 arg5 harg5 arg6 harg6 arg7 harg7 arg8 harg8 arg9 harg9 arg10 harg10 arg0 v0 t1 t2
    (harg2.unread x2) (harg3.unread x3) (harg4.unread x4) (harg5.unread x5) (harg6.unread x6) (harg7.unread x7) t J k0_t1_loop.trips (Nat.le_refl _)
    (by rw [trips1]; have := J.isLt; omega)
  rw [e]
  refine (congrArg (fun z : EReal => z) (View.read_writes_apply_eq_canon arg9.view f9 (ix2 t J) _ hm)).trans (ev.trans ?_)
  rw [harg2.read_unread, harg3.read_unread, harg4.read_unread, harg5.read_unread, harg6.read_unread, harg7.read_unread, hv]

end Loop

end Cert.Proof.KernelIdeal

end
-- ==== Proof.IdealArray.lean ====
/- The result array of the kernel at a token and an output row, and what each grid step contributes to it. -/
module

public import proofs.«01_k».proof.Proof.IdealStep

@[expose] public section

set_option maxRecDepth 16384
set_option maxHeartbeats 400000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe Idealize.ShloMosaic.Tactic
open Idealize.SL
open Idealize.ShloMosaic.Pipeline (Dat Cfg Window)

/-- What chunk `c` adds to an output, from the row's packed weights `wr`, its codes `cr`, its scale row `srow`, its parity
    `p` and its lane `l`. -/
def rowChunk (v0 : EReal) (T1 T2 : Fin 16 → BitVec 8) (xr : Fin 5120 → EReal) (wr : Fin 2560 → BitVec 8) (cr : Fin 80 → BitVec 8)
    (x5 : Vec Ideal S75x128 .f32) (x6 : Vec Ideal S32x128 .i32) (x7 : Vec Ideal S2x128 .i32) (srow : Fin 75) (p : Fin 2) (l : Fin 128) (c : ℕ) : EReal :=
  ∑ kk : Fin 256, xr ⟨(256 * c + kk.val) % 5120, Nat.mod_lt _ (by decide)⟩ *
    (val (F := Ideal) T1 T2 (nib (if kk.val < 128 then 4#32 else 0#32) (wr ⟨(128 * c + kk.val % 128) % 2560, Nat.mod_lt _ (by decide)⟩))
      * blockScaleWith v0 x5 srow (cr ⟨(4 * c + kk.val % 128 / 32) % 80, Nat.mod_lt _ (by decide)⟩) ((4 * c + kk.val % 128 / 32) % 80)
          (x7 (ix2 p l)) (x6 (ix2 ⟨8 * p.val, by omega⟩ l)) (x6 (ix2 ⟨16 + 8 * p.val, by omega⟩ l)))

/-- The result of one token and one output row, from the whole arrays. -/
def arrayEntry (v0 : EReal) (T1 T2 : Fin 16 → BitVec 8) (x2 : Vec Ideal S8x5120 .bf16) (w : Vec Ideal S19072x2560 .i8) (cs : Vec Ideal S19072x80 .i8)
    (x5 : Vec Ideal S75x128 .f32) (x6 : Vec Ideal S32x128 .i32) (x7 : Vec Ideal S2x128 .i32) (t : Fin 8) (R : Fin 19072) : EReal :=
  ∑ c ∈ Finset.range 20, rowChunk v0 T1 T2 (fun q => x2 (ix2 t q)) (fun q => w (ix2 R q)) (fun q => cs (ix2 R q)) x5 x6 x7
    ⟨R.val / 256, by omega⟩ ⟨R.val % 2, Nat.mod_lt _ (by decide)⟩ ⟨R.val % 256 / 2, by omega⟩ c

/-- A step's entry is the array's entry, when the step's weight and code rows are the array's. -/
theorem stepEntry_eq (v0 : EReal) (T1 T2 : Fin 16 → BitVec 8) (x2 : Vec Ideal S8x5120 .bf16) (x3 : Vec Ideal S1280x2560 .i8) (x4 : Vec Ideal S1280x80 .i8)
    (x5 : Vec Ideal S75x128 .f32) (x6 : Vec Ideal S32x128 .i32) (x7 : Vec Ideal S2x128 .i32)
    (w : Vec Ideal S19072x2560 .i8) (cs : Vec Ideal S19072x80 .i8) (q : ℕ) (t : Fin 8) (J : Fin 1280) (R : Fin 19072) (hR : R.val = 1280 * q + J.val)
    (hw : ∀ k, x3 (ix2 J k) = w (ix2 R k)) (hc : ∀ k, x4 (ix2 J k) = cs (ix2 R k)) :
    stepEntry v0 T1 T2 x2 x3 x4 x5 x6 x7 q t J = arrayEntry v0 T1 T2 x2 w cs x5 x6 x7 t R := by
  have hRl := R.isLt
  have e1 : (⟨(5 * q + J.val / 256) % 75, Nat.mod_lt _ (by decide)⟩ : Fin 75) = ⟨R.val / 256, by omega⟩ :=
    Fin.ext (by show (5 * q + J.val / 256) % 75 = R.val / 256; omega)
  have e2 : (⟨J.val % 2, Nat.mod_lt _ (by decide)⟩ : Fin 2) = ⟨R.val % 2, Nat.mod_lt _ (by decide)⟩ :=
    Fin.ext (by show J.val % 2 = R.val % 2; omega)
  have e3 : (⟨J.val % 256 / 2, by omega⟩ : Fin 128) = ⟨R.val % 256 / 2, by omega⟩ :=
    Fin.ext (by show J.val % 256 / 2 = R.val % 256 / 2; omega)
  unfold stepEntry arrayEntry
  refine Finset.sum_congr rfl fun c _ => ?_
  show rowChunk v0 T1 T2 (fun q => x2 (ix2 t q)) (fun q => x3 (ix2 J q)) (fun q => x4 (ix2 J q)) x5 x6 x7
    ⟨(5 * q + J.val / 256) % 75, Nat.mod_lt _ (by decide)⟩ ⟨J.val % 2, Nat.mod_lt _ (by decide)⟩ ⟨J.val % 256 / 2, by omega⟩ c = _
  rw [e1, e2, e3, show (fun q => x3 (ix2 J q)) = (fun q => w (ix2 R q)) from funext hw, show (fun q => x4 (ix2 J q)) = (fun q => cs (ix2 R q)) from funext hc]

/-! ### The blocks the windows stage -/

section Blocks

variable (m : (ℓ : Loc nD τ sig) → Buf (Elt Ideal) ℓ) (c : Dev nD) (t : Fin cfg0.N)

/-- The single grid coordinate of a point is its number. -/
theorem coords_val : ∀ t : Fin cfg0.N, (grid0.coords t 0).val = t.val := (by decide +kernel : ∀ t : Fin grid0.N, _)
/-- The rows of the weight block that lie inside the weight array. -/
theorem extent2 : ∀ t : Fin cfg0.N, win0_2.xsize (grid0.coords t) 0 = min 1280 (19072 - 1280 * t.val) := (by decide +kernel : ∀ t : Fin grid0.N, _)
/-- The weight block spans all columns. -/
theorem extent2' : ∀ t : Fin cfg0.N, win0_2.xsize (grid0.coords t) 1 = 2560 := (by decide +kernel : ∀ t : Fin grid0.N, _)
/-- The rows of the code block that lie inside the code array. -/
theorem extent3 : ∀ t : Fin cfg0.N, win0_3.xsize (grid0.coords t) 0 = min 1280 (19072 - 1280 * t.val) := (by decide +kernel : ∀ t : Fin grid0.N, _)
/-- The code block spans all columns. -/
theorem extent3' : ∀ t : Fin cfg0.N, win0_3.xsize (grid0.coords t) 1 = 80 := (by decide +kernel : ∀ t : Fin grid0.N, _)
/-- The columns of the result block that lie inside the result. -/
theorem extent8 : ∀ t : Fin cfg0.N, win0_8.xsize (grid0.coords t) 1 = min 1280 (19072 - 1280 * t.val) := (by decide +kernel : ∀ t : Fin grid0.N, _)
/-- The result block spans all eight rows. -/
theorem extent8' : ∀ t : Fin cfg0.N, win0_8.xsize (grid0.coords t) 0 = 8 := (by decide +kernel : ∀ t : Fin grid0.N, _)
/-- The offset has one block. -/
theorem index0 : ∀ t : Fin cfg0.N, win0_0.index t = ![0, 0] := (by decide +kernel : ∀ t : Fin grid0.N, _)
/-- The input has one block. -/
theorem index1 : ∀ t : Fin cfg0.N, win0_1.index t = ![0, 0] := (by decide +kernel : ∀ t : Fin grid0.N, _)
/-- The weight block of a point is the one of its number. -/
theorem index2 : ∀ t : Fin cfg0.N, win0_2.index t = ![t.val, 0] := (by decide +kernel : ∀ t : Fin grid0.N, _)
/-- The code block of a point is the one of its number. -/
theorem index3 : ∀ t : Fin cfg0.N, win0_3.index t = ![t.val, 0] := (by decide +kernel : ∀ t : Fin grid0.N, _)
/-- The scale array has one block. -/
theorem index4 : ∀ t : Fin cfg0.N, win0_4.index t = ![0, 0] := (by decide +kernel : ∀ t : Fin grid0.N, _)
/-- The table of first scale groups has one block. -/
theorem index5 : ∀ t : Fin cfg0.N, win0_5.index t = ![0, 0] := (by decide +kernel : ∀ t : Fin grid0.N, _)
/-- The table of thresholds has one block. -/
theorem index6 : ∀ t : Fin cfg0.N, win0_6.index t = ![0, 0] := (by decide +kernel : ∀ t : Fin grid0.N, _)
/-- The table of levels has one block. -/
theorem index7 : ∀ t : Fin cfg0.N, win0_7.index t = ![0, 0] := (by decide +kernel : ∀ t : Fin grid0.N, _)
/-- The result block of a point is the one of its number. -/
theorem index8 : ∀ t : Fin cfg0.N, win0_8.index t = ![0, t.val] := (by decide +kernel : ∀ t : Fin grid0.N, _)

/-- The step sees the whole offset array. -/
theorem block0 : (iblk m c 0 t : Vec Ideal S1x1 .f32) = V m c main_v6 := by
  funext j; unfold iblk; blk_ext [index0]
/-- The step sees the whole reordered input. -/
theorem block1 : (iblk m c 1 t : Vec Ideal S8x5120 .bf16) = V m c main_v2 := by
  funext j; unfold iblk; blk_ext [index1]
/-- The step sees the whole scale array. -/
theorem block4 : (iblk m c 4 t : Vec Ideal S75x128 .f32) = V m c main_v5 := by
  funext j; unfold iblk; blk_ext [index4]
/-- The step sees the whole table of first scale groups. -/
theorem block5 : (iblk m c 5 t : Vec Ideal S32x128 .i32) = V m c main_c := by
  funext j; unfold iblk; blk_ext [index5]
/-- The step sees the whole table of thresholds. -/
theorem block6 : (iblk m c 6 t : Vec Ideal S2x128 .i32) = V m c main_c_0 := by
  funext j; unfold iblk; blk_ext [index6]
/-- The step sees the whole table of levels. -/
theorem block7 : (iblk m c 7 t : Vec Ideal S64x128 .i8) = V m c main_c_1 := by
  funext j; unfold iblk; blk_ext [index7]

/-- A weight row that lies inside the array is staged as it is, whatever the buffer held before. -/
theorem weights_row (d : win0_2.block.Idx → Elt Ideal win0_2.elt) (J : Fin 1280) (R : Fin 19072) (hR : R.val = 1280 * t.val + J.val) (k : Fin 2560) :
    X2 m c t d (ix2 J k) = V m c main_arg1 (ix2 R k) := by
  have hj : ∀ a, ((ix2 J k : S1280x2560.Idx) a).val < win0_2.xsize (grid0.coords t) a := by
    have hJ := J.isLt; have hRl := R.isLt; have hk := k.isLt
    intro a
    match a with
    | 0 => rw [extent2 t]; show J.val < _; omega
    | 1 => rw [extent2' t]; exact hk
  let j : (win0_2.xblock (grid0.coords t)).Idx := fun a => ⟨_, hj a⟩
  have e : win0_2.xinj (grid0.coords t) j = (ix2 J k : S1280x2560.Idx) := rfl
  unfold X2
  refine ((congrArg _ e.symm).trans (win0_2.fill_xinj (grid0.coords t) d (iblk m c 2 t) j)).trans ?_
  unfold iblk
  refine congrArg (V m c main_arg1) (funext fun a => Fin.ext ?_)
  refine (win0_2.rect_emb_val t j a).trans ?_
  match a with
  | 0 => rw [index2 t]; show t.val * 1280 + J.val = R.val; omega
  | 1 => rw [index2 t]; show 0 * 2560 + k.val = k.val; omega

/-- A row of codes that lies inside the array is staged as it is, whatever the buffer held before. -/
theorem codes_row (d : win0_3.block.Idx → Elt Ideal win0_3.elt) (J : Fin 1280) (R : Fin 19072) (hR : R.val = 1280 * t.val + J.val) (k : Fin 80) :
    X3 m c t d (ix2 J k) = V m c main_arg2 (ix2 R k) := by
  have hj : ∀ a, ((ix2 J k : S1280x80.Idx) a).val < win0_3.xsize (grid0.coords t) a := by
    have hJ := J.isLt; have hRl := R.isLt; have hk := k.isLt
    intro a
    match a with
    | 0 => rw [extent3 t]; show J.val < _; omega
    | 1 => rw [extent3' t]; exact hk
  let j : (win0_3.xblock (grid0.coords t)).Idx := fun a => ⟨_, hj a⟩
  have e : win0_3.xinj (grid0.coords t) j = (ix2 J k : S1280x80.Idx) := rfl
  unfold X3
  refine ((congrArg _ e.symm).trans (win0_3.fill_xinj (grid0.coords t) d (iblk m c 3 t) j)).trans ?_
  unfold iblk
  refine congrArg (V m c main_arg2) (funext fun a => Fin.ext ?_)
  refine (win0_3.rect_emb_val t j a).trans ?_
  match a with
  | 0 => rw [index3 t]; show t.val * 1280 + J.val = R.val; omega
  | 1 => rw [index3 t]; show 0 * 80 + k.val = k.val; omega

end Blocks

end Cert.Proof.KernelIdeal

end
-- ==== Proof.IdealTables.lean ====
/- The literal tables of the kernel: the bytes of the sixteen table values, and where the scale blocks begin and end. -/
module

public import proofs.«01_k».proof.Proof.IdealArray

@[expose] public section

set_option maxRecDepth 16384
set_option maxHeartbeats 400000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe Idealize.ShloMosaic.Tactic
open Idealize.SL

/-- The low bytes of the sixteen table values. -/
def low (n : Fin 16) : BitVec 8 := lit2 (S64x128.rowMajor (ix2 ⟨n.val, by omega⟩ 0))
/-- The high bytes of the sixteen table values. -/
def high (n : Fin 16) : BitVec 8 := lit2 (S64x128.rowMajor (ix2 ⟨32 + n.val, by omega⟩ 0))

/-- The first 32 rows of the table hold the low bytes of the levels, every lane alike. -/
theorem low_row : ∀ (n : Fin 32) (l : Fin 128), lit2 (S64x128.rowMajor (ix2 ⟨n.val, by omega⟩ l)) = low ⟨n.val % 16, Nat.mod_lt _ (by decide)⟩ := by
  decide +kernel
/-- The last 32 rows of the table hold the high bytes of the levels, every lane alike. -/
theorem high_row : ∀ (n : Fin 32) (l : Fin 128), lit2 (S64x128.rowMajor (ix2 ⟨32 + n.val, by omega⟩ l)) = high ⟨n.val % 16, Nat.mod_lt _ (by decide)⟩ := by
  decide +kernel

/-- The scale group, counted from the 256-row group's first, in which a row's first code lies. -/
theorem first_low : ∀ (p : Fin 2) (l : Fin 128), lit0 (S32x128.rowMajor (ix2 ⟨8 * p.val, by omega⟩ l)) = BitVec.ofNat 32 ((2 * l.val + p.val) * 80 / 256) := by
  decide +kernel
/-- The scale group, counted from the 256-row group's first, in which a row's last code lies. -/
theorem first_high : ∀ (p : Fin 2) (l : Fin 128), lit0 (S32x128.rowMajor (ix2 ⟨16 + 8 * p.val, by omega⟩ l)) = BitVec.ofNat 32 (((2 * l.val + p.val) * 80 + 79) / 256) := by
  decide +kernel
/-- The code of a row from which the second scale group holds. -/
theorem bound : ∀ (p : Fin 2) (l : Fin 128), lit1 (S2x128.rowMajor (ix2 p l))
    = BitVec.ofNat 32 (((2 * l.val + p.val) * 80 / 256 + 1) * 256 - (2 * l.val + p.val) * 80) := by
  decide +kernel

end Cert.Proof.KernelIdeal

end
-- ==== Proof.IdealHost.lean ====
/- What the host operations before the region leave: the reordered input, the padded scales, the literal tables. -/
module

public import proofs.«01_k».proof.Proof.IdealTables
public import Idealize.ShloMosaic.Lib.Claim
public import Idealize.ShloMosaic.Lib.StableHlo.ReadAt

@[expose] public section

set_option maxRecDepth 16384
set_option maxHeartbeats 400000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe Idealize.ShloMosaic.Tactic
open Idealize.SL

variable (m : (ℓ : Loc nD τ sig) → Buf (Elt Ideal) ℓ) (c : Dev nD)

/-- The host operations before the region, in order. -/
abbrev hostLine : List (HloOp τ sig (Elt Ideal)) := hostOps0 ++ (hostOps0_1 ++ (hostOps0_2 ++ (hostOps0_3 ++ hostOps0_4)))

/-- The array a buffer holds at the launch is the one the host line before it leaves. -/
theorem V_eq (b : Ref sig .tc) : V m c b = StableHlo.after hostLine (fun b => m (c, b)) (Proc.devRef .tc b) := rfl

/-- The table of levels is the printed literal. -/
theorem table_eq : (V m c main_c_1 : Vec Ideal S64x128 .i8) = fun i => lit2 (S64x128.rowMajor i) := by
  rw [V_eq]
  after_reads_simp
  rfl
/-- The table of first scale groups is the printed literal. -/
theorem first_eq : (V m c main_c : Vec Ideal S32x128 .i32) = fun i => lit0 (S32x128.rowMajor i) := by
  rw [V_eq]
  after_reads_simp
  rfl
/-- The table of thresholds is the printed literal. -/
theorem bound_eq : (V m c main_c_0 : Vec Ideal S2x128 .i32) = fun i => lit1 (S2x128.rowMajor i) := by
  rw [V_eq]
  after_reads_simp
  rfl

/-- The kernel's offset is the argument's. -/
theorem offset_eq : (V m c main_v6 (ix2 0 0) : EReal) = m ((c : Thread nD τ).loc main_arg4) ix0 := by
  rw [V_eq]
  after_reads_at
  exact congrArg (m ((c : Thread nD τ).loc main_arg4)) (funext fun a => a.elim0)

/-- The reordered input: within every 256 columns the even ones first, then the odd ones. -/
theorem input_at (t : Fin 8) (q k : Fin 5120) (hk : k.val = q.val / 256 * 256 + 2 * (q.val % 128) + q.val % 256 / 128) :
    (V m c main_v2 (ix2 t q) : EReal) = m ((c : Thread nD τ).loc main_arg0) (ix3 t 0 k) := by
  rw [V_eq]
  after_reads_at
  refine congrArg (m ((c : Thread nD τ).loc main_arg0)) (funext fun a => ?_)
  match a with
  | 0 => rfl
  | 1 => rfl
  | 2 =>
    refine Fin.ext ?_
    show q.val / 256 * 256 + q.val % 128 * 2 + q.val / 128 % 2 = k.val
    have h : q.val / 128 / 2 = q.val / 256 := Nat.div_div_eq_div_mul _ _ _
    omega

/-- The padded scales: row `g` holds the scales of the weight rows `256 g` to `256 g + 255`. -/
theorem scale_at (g : Fin 75) (l : Fin 128) (n : Fin 5960) (hl : l.val < 80) (hn : n.val = 80 * g.val + l.val) :
    (V m c main_v5 (ix2 g l) : EReal) = m ((c : Thread nD τ).loc main_arg3) (ix1 n) := by
  rw [V_eq]
  after_reads_at
  have h2 : g.val * 80 + l.val < 5960 := by omega
  refine (dif_pos hl).trans ((dif_pos h2).trans ?_)
  refine congrArg (m ((c : Thread nD τ).loc main_arg3)) (funext fun a => ?_)
  match a with
  | 0 =>
    refine Fin.ext ?_
    show g.val * 80 + l.val = n.val
    omega

end Cert.Proof.KernelIdeal

end
-- ==== Proof.IdealRun.lean ====
/- The kernel's whole run at exact arithmetic: the result array, entry by entry. -/
module

public import proofs.«01_k».proof.Proof.IdealHost

@[expose] public section

set_option maxRecDepth 16384
set_option maxHeartbeats 4000000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result array on core `c`. -/
def result (c : Dev nD) : Vec Ideal S8x19072 .bf16 := fun j =>
  arrayEntry (V m c main_v6 (ix2 0 0)) low high (V m c main_v2) (V m c main_arg1) (V m c main_arg2) (V m c main_v5) (V m c main_c) (V m c main_c_0) (j 0) (j 1)

/-- The part of the result that step `t` writes. -/
def resultBlock (c : Dev nD) (t : Fin cfg0.N) : ((cfg0.win 8).xblock (cfg0.grid.coords t)).Idx → Elt Ideal (cfg0.win 8).elt :=
  ((cfg0.win 8).blk t).view.read (Elt Ideal) (result m c)

/-- The result window's buffer after step `t`: its block of the result, over a filler outside the array. -/
def left (c : Dev nD) (t : Fin cfg0.N) : win0_8.block.Idx → Elt Ideal win0_8.elt :=
  win0_8.fill (grid0.coords t) (fun _ => Classical.choice inferInstance) (resultBlock m c t)

/-- What step `t` leaves in the result buffer, inside the array. -/
theorem step_cut (c : Dev nD) (t : Fin cfg0.N) (d2 : win0_2.block.Idx → Elt Ideal win0_2.elt) (d3 : win0_3.block.Idx → Elt Ideal win0_3.elt) (f9) :
    win0_8.cut (grid0.coords t) ((st0_8 t).view.read (Elt Ideal) ((st0_8 t).view.writes (Elt Ideal) f9 (pieces m c t d2 d3))) = resultBlock m c t := by
  funext y
  have hy0 : (y 0).val < 8 := by have h := (y 0).isLt; have e := extent8' t; exact lt_of_lt_of_eq h e
  have hy1 : (y 1).val < min 1280 (19072 - 1280 * t.val) := by have h := (y 1).isLt; have e := extent8 t; exact lt_of_lt_of_eq h e
  have hR : 1280 * t.val + (y 1).val < 19072 := by omega
  have ex : win0_8.xinj (grid0.coords t) y = (ix2 ⟨(y 0).val, hy0⟩ ⟨(y 1).val, by omega⟩ : S8x1280.Idx) := by
    funext a; match a with
    | 0 => rfl
    | 1 => rfl
  have em : ((cfg0.win 8).blk t).view.emb y = (ix2 ⟨(y 0).val, hy0⟩ ⟨1280 * t.val + (y 1).val, hR⟩ : S8x19072.Idx) := by
    funext a; apply Fin.ext
    refine (win0_8.rect_emb_val t y a).trans ?_
    match a with
    | 0 => rw [index8 t]; show 0 * 8 + (y 0).val = (y 0).val; omega
    | 1 => rw [index8 t]; show t.val * 1280 + (y 1).val = 1280 * t.val + (y 1).val; omega
  unfold Window.cut pieces
  refine (congrArg (View.read (Elt Ideal) (st0_8 t).view ((st0_8 t).view.writes (Elt Ideal) f9 _)) ex).trans ?_
  refine (body_value c (grid0.coords t) _ _ _ _ _ _ _ _ _ _ _ _ _ _ _ _ _ _ _ _ (iblk m c 0 t) (iblk m c 1 t) (X2 m c t d2) (X3 m c t d3) (iblk m c 4 t) (iblk m c 5 t) (iblk m c 6 t) (iblk m c 7 t)
    (T1 := low) (T2 := high) ?_ ?_ f9 ⟨(y 0).val, hy0⟩ ⟨(y 1).val, by omega⟩).trans ?_
  · intro n l; exact (congrFun (block7 m c t) _).trans ((congrFun (table_eq m c) _).trans (low_row n l))
  · intro n l; exact (congrFun (block7 m c t) _).trans ((congrFun (table_eq m c) _).trans (high_row n l))
  refine (stepEntry_eq _ _ _ _ _ _ _ _ _ (V m c main_arg1) (V m c main_arg2) _ _ _ ⟨1280 * t.val + (y 1).val, hR⟩ (by rw [coords_val t])
    (fun k => weights_row m c t d2 _ _ rfl k) (fun k => codes_row m c t d3 _ _ rfl k)).trans ?_
  unfold resultBlock
  refine Eq.trans ?_ (congrArg (result m c) em).symm
  unfold result
  rw [← block0 m c t, ← block1 m c t, ← block4 m c t, ← block5 m c t, ← block6 m c t]

/-- The result buffer, refilled with its block of the result, is as step `t` left it. -/
theorem left_fill (c : Dev nD) (t : Fin cfg0.N) (d2 : win0_2.block.Idx → Elt Ideal win0_2.elt) (d3 : win0_3.block.Idx → Elt Ideal win0_3.elt) (f9) :
    win0_8.fill (grid0.coords t) ((st0_8 t).view.read (Elt Ideal) ((st0_8 t).view.writes (Elt Ideal) f9 (pieces m c t d2 d3)))
        (win0_8.cut (grid0.coords t) (left m c t))
      = (st0_8 t).view.read (Elt Ideal) ((st0_8 t).view.writes (Elt Ideal) f9 (pieces m c t d2 d3)) :=
  win0_8.fill_congr_cut (grid0.coords t) ((step_cut m c t d2 d3 f9).trans (win0_8.cut_fill _ _ _).symm)

/-- The step keeps the pipeline's contract, the result window at its block of `result`. -/
theorem body_obligation (c : Dev nD) :
    BodyObligationLoose (dats m (left m) 0 c) (defs₀ (F := Ideal)) Variants.none () Set.univ := fun t => by
  rw [bigSep_W0, bigSep_W0, defs₀_row]
  rw [show (dats m (left m) 0 c).Φ t.succ = (Pipeline.ΦA spec0 c) from rfl, show (dats m (left m) 0 c).Φ t.castSucc = (Pipeline.ΦA spec0 c) from rfl,
    show (dats m (left m) 0 c).owesAt () t.succ = (dats m (left m) 0 c).owesAt () t.castSucc from rfl]
  refine triple_restated (W := wp frame (wpE (defs₀ (F := Ideal)) Variants.none (c : Thread nD τ) none) Set.univ (bodyAt0 t))
    (P := iprop(Pipeline.ΦA spec0 c ∗ (dats m (left m) 0 c).owesAt () t.castSucc
        ∗ (∃ d, owns (c : Thread nD τ) (st0_0 t) fullShare ((dats m (left m) 0 c).before 0 t d))
        ∗ (∃ d, owns (c : Thread nD τ) (st0_1 t) fullShare ((dats m (left m) 0 c).before 1 t d))
        ∗ (∃ d, owns (c : Thread nD τ) (st0_2 t) fullShare ((dats m (left m) 0 c).before 2 t d))
        ∗ (∃ d, owns (c : Thread nD τ) (st0_3 t) fullShare ((dats m (left m) 0 c).before 3 t d))
        ∗ (∃ d, owns (c : Thread nD τ) (st0_4 t) fullShare ((dats m (left m) 0 c).before 4 t d))
        ∗ (∃ d, owns (c : Thread nD τ) (st0_5 t) fullShare ((dats m (left m) 0 c).before 5 t d))
        ∗ (∃ d, owns (c : Thread nD τ) (st0_6 t) fullShare ((dats m (left m) 0 c).before 6 t d))
        ∗ (∃ d, owns (c : Thread nD τ) (st0_7 t) fullShare ((dats m (left m) 0 c).before 7 t d))
        ∗ (∃ d, owns (c : Thread nD τ) (st0_8 t) fullShare ((dats m (left m) 0 c).before 8 t d))))
    (Q := fun _ => iprop(Pipeline.ΦA spec0 c ∗ (dats m (left m) 0 c).owesAt () t.castSucc
        ∗ owns (c : Thread nD τ) (st0_0 t) fullShare ((dats m (left m) 0 c).after 0 t)
        ∗ owns (c : Thread nD τ) (st0_1 t) fullShare ((dats m (left m) 0 c).after 1 t)
        ∗ (∃ d, owns (c : Thread nD τ) (st0_2 t) fullShare (win0_2.fill (grid0.coords t) d (win0_2.cut (grid0.coords t) ((dats m (left m) 0 c).after 2 t))))
        ∗ (∃ d, owns (c : Thread nD τ) (st0_3 t) fullShare (win0_3.fill (grid0.coords t) d (win0_3.cut (grid0.coords t) ((dats m (left m) 0 c).after 3 t))))
        ∗ owns (c : Thread nD τ) (st0_4 t) fullShare ((dats m (left m) 0 c).after 4 t)
        ∗ owns (c : Thread nD τ) (st0_5 t) fullShare ((dats m (left m) 0 c).after 5 t)
        ∗ owns (c : Thread nD τ) (st0_6 t) fullShare ((dats m (left m) 0 c).after 6 t)
        ∗ owns (c : Thread nD τ) (st0_7 t) fullShare ((dats m (left m) 0 c).after 7 t)
        ∗ (∃ d, owns (c : Thread nD τ) (st0_8 t) fullShare (win0_8.fill (grid0.coords t) d (win0_8.cut (grid0.coords t) ((dats m (left m) 0 c).after 8 t)))))) ?_ rfl .rfl fun _ => .rfl
  simp only [before0_0, before0_1, before0_2, before0_3, before0_4, before0_5, before0_6, before0_7, after0_0, after0_1, after0_2,
    after0_3, after0_4, after0_5, after0_6, after0_7, after0_8, cut_X2, cut_X3]
  iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  iapply (step_at m c t e2 e3 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨HΦ, H0, H1, H2, H3, H4, H5, H6, H7, ⟨%f9, H8⟩⟩
  isplitl [HΦ]; · iexact HΦ
  isplitl [Ho]; · iexact Ho
  isplitl [H0]; · iexact H0
  isplitl [H1]; · iexact H1
  isplitl [H2]
  · iexists e2
    rw [show win0_2.fill (grid0.coords t) e2 (win0_2.cut (grid0.coords t) (X2 m c t dflt2)) = X2 m c t e2 from by
      rw [cut_X2]; rfl]
    iexact H2
  isplitl [H3]
  · iexists e3
    rw [show win0_3.fill (grid0.coords t) e3 (win0_3.cut (grid0.coords t) (X3 m c t dflt3)) = X3 m c t e3 from by
      rw [cut_X3]; rfl]
    iexact H3
  isplitl [H4]; · iexact H4
  isplitl [H5]; · iexact H5
  isplitl [H6]; · iexact H6
  isplitl [H7]; · iexact H7
  iexists ((st0_8 t).view.read (Elt Ideal) ((st0_8 t).view.writes (Elt Ideal) f9 (pieces m c t e2 e3)))
  rw [left_fill m c t e2 e3 f9]
  iexact H8

/-- The result array after the whole grid. -/
theorem array_eq (c : Dev nD) : (dats m (left m) 0 c).arrAt 8 cfg0.N = result m c := by
  refine Dat.arrAt_eq_of_covers (dats m (left m) 0 c) 8 (result m c) (by decide +kernel) ?_
  intro t _ y
  refine (cast_eq _ _).trans ?_
  rw [after0_8]
  exact win0_8.fill_xinj (grid0.coords t) _ (resultBlock m c t) y

/-- Every run ends with the result array at `result`, every other buffer as the region found it, and every semaphore at
    zero. -/
theorem run_value : θ_run (defs (F := Ideal)) (onTc (τ := τ) (main (F := Ideal))) (s₀ m ρ)
    (fun r => Pipeline.FramePost cfgs (dats m (left m)) 0 (V m) r ∧ r.2.sem = fun _ => 0) :=
  Pipeline.θ_run_frame (Q' := _) cfgs (dats m (left m)) (0 : Fin 1) launch0 defs₀ Variants.none m ρ main
    (hbody := fun c => body_obligation m c) (hshare := fun c => (dats m (left m) 0 c).share_full fun _ => rfl)
    (howed := fun _ _ => rfl) (V := V m) (hmain := hmain m Variants.none) (hA := A_eq m (left m)) (hΦ := fun _ _ => rfl)

end Cert.Proof.KernelIdeal

end
-- ==== Proof.Linear.lean ====
/- The result as the problem states it: a sum over the even inputs against the high nibbles and one over the odd inputs
   against the low nibbles, each weight the table value times its block's dequantised scale. -/
module

public import proofs.«01_k».proof.Proof.IdealTables

@[expose] public section

set_option maxRecDepth 16384
set_option maxHeartbeats 400000

noncomputable section

namespace Cert.Proof.KernelIdeal

open Idealize.ShloMosaic hiding ix0 ix1 ix2 ix3 ix4 ix5
open Idealize.ShloMosaic.ValueIdx

/-- A block's scale: its code times the group's scale, plus the offset. -/
def scaleOf (code : BitVec 8) (s off : EReal) : EReal :=
  Scalar.sitofp (F := Ideal) .f32 (BitVec.signExtend 32 code) * s + off

/-- The weight that a nibble of a packed byte stands for, in row `R` and byte column `k`. -/
def weight (sh : BitVec 32) (w : Fin 2560 → BitVec 8) (cs : Fin 80 → BitVec 8) (sc : Fin 5960 → EReal) (off : EReal) (R : Fin 19072) (k : Fin 2560) : EReal :=
  val (F := Ideal) low high (nib sh (w k)) * scaleOf (cs ⟨k.val / 32, by omega⟩) (sc ⟨(R.val * 80 + k.val / 32) / 256, by omega⟩) off

/-- The result of one token and one output row. -/
def linear (x : Fin 5120 → EReal) (w : Fin 2560 → BitVec 8) (cs : Fin 80 → BitVec 8) (sc : Fin 5960 → EReal) (off : EReal) (R : Fin 19072) : EReal :=
  (∑ k : Fin 2560, x ⟨2 * k.val, by omega⟩ * weight 4#32 w cs sc off R k)
    + ∑ k : Fin 2560, x ⟨2 * k.val + 1, by omega⟩ * weight 0#32 w cs sc off R k

end Cert.Proof.KernelIdeal

end
-- ==== Proof.Equation.lean ====
/- The kernel's result array is `linear` of the arguments: its scale table, its reordered input and its chunks undone. -/
module

public import proofs.«01_k».proof.Proof.IdealRun
public import proofs.«01_k».proof.Proof.Linear

@[expose] public section

set_option maxRecDepth 16384
set_option maxHeartbeats 400000

noncomputable section

namespace Cert.Proof.KernelIdeal

open Cert.KernelIdeal Cert.KernelIdeal.Gen
open Idealize.ShloMosaic hiding ix0 ix1 ix2 ix3 ix4 ix5
open Idealize.ShloMosaic.ValueIdx Idealize.ShloMosaic.TcCoe Idealize.ShloMosaic.Tactic
open Idealize.SL

/-- A signed comparison of two small words. -/
theorem select_lt (a b : ℕ) (ha : a < 2 ^ 31) (hb : b < 2 ^ 31) (x y : EReal) :
    Scalar.select (IntOp.cmpi .slt (BitVec.ofNat 32 a) (BitVec.ofNat 32 b)) x y = if a < b then x else y := by
  have h : (BitVec.ofNat 32 a).slt (BitVec.ofNat 32 b) = decide (a < b) := by
    have ea : (BitVec.ofNat 32 a).toNat = a := by rw [BitVec.toNat_ofNat]; omega
    have eb : (BitVec.ofNat 32 b).toNat = b := by rw [BitVec.toNat_ofNat]; omega
    rw [BitVec.slt_eq_decide, BitVec.toInt_eq_toNat_of_lt (by rw [ea]; omega), BitVec.toInt_eq_toNat_of_lt (by rw [eb]; omega), ea, eb]
    exact decide_eq_decide.mpr Int.ofNat_lt
  by_cases hab : a < b
  · rw [if_pos hab]
    have e : IntOp.cmpi .slt (BitVec.ofNat 32 a) (BitVec.ofNat 32 b) = 1#1 := by
      unfold IntOp.cmpi; simp [h, hab]
    rw [e]; exact scalar_one _ _
  · rw [if_neg hab]
    have e : IntOp.cmpi .slt (BitVec.ofNat 32 a) (BitVec.ofNat 32 b) = 0#1 := by
      unfold IntOp.cmpi; simp [h, hab]
    rw [e]; exact scalar_zero _ _

/-- Consecutive blocks of 128 make one range. -/
theorem sum_blocks (g : ℕ → EReal) : ∀ n, (∑ c ∈ Finset.range n, ∑ j ∈ Finset.range 128, g (128 * c + j)) = ∑ k ∈ Finset.range (128 * n), g k
  | 0 => by simp
  | n + 1 => by rw [Finset.sum_range_succ, sum_blocks g n, Nat.mul_succ, Finset.sum_range_add]

/-- The two halves of a chunk, over the chunks, are the two halves of the whole. -/
theorem sum_halves (f : ℕ → ℕ → EReal) (A B : ℕ → EReal)
    (hA : ∀ c < 20, ∀ j < 128, f c j = A (128 * c + j)) (hB : ∀ c < 20, ∀ j < 128, f c (128 + j) = B (128 * c + j)) :
    (∑ c ∈ Finset.range 20, ∑ kk : Fin 256, f c kk.val) = (∑ k : Fin 2560, A k.val) + ∑ k : Fin 2560, B k.val := by
  rw [← Finset.sum_range (fun k => A k), ← Finset.sum_range (fun k => B k), ← sum_blocks A 20, ← sum_blocks B 20, ← Finset.sum_add_distrib]
  refine Finset.sum_congr rfl fun c hc => ?_
  have hc := Finset.mem_range.mp hc
  rw [← Finset.sum_range (fun k => f c k), show (256 : ℕ) = 128 + 128 from rfl, Finset.sum_range_add]
  exact congrArg₂ _ (Finset.sum_congr rfl fun j hj => hA c hc j (Finset.mem_range.mp hj)) (Finset.sum_congr rfl fun j hj => hB c hc j (Finset.mem_range.mp hj))

section

variable (m : (ℓ : Loc nD τ sig) → Buf (Elt Ideal) ℓ) (c : Dev nD)

/-- The scales as launched. -/
def scales (n : Fin 5960) : EReal := m ((c : Thread nD τ).loc main_arg3) (ix1 n)
/-- The offset as launched. -/
def offset : EReal := m ((c : Thread nD τ).loc main_arg4) ix0

/-- The kernel's scale of row `R` and block `b`: whichever side of the group's boundary the block falls on, it is the
    block's own group that is read. -/
theorem scale_eq (R : Fin 19072) (b : Fin 80) (code : BitVec 8) :
    blockScaleWith (V m c main_v6 (ix2 0 0)) (V m c main_v5) ⟨R.val / 256, by omega⟩ code b.val
        (V m c main_c_0 (ix2 ⟨R.val % 2, Nat.mod_lt _ (by decide)⟩ ⟨R.val % 256 / 2, by omega⟩))
        (V m c main_c (ix2 ⟨8 * (R.val % 2), by omega⟩ ⟨R.val % 256 / 2, by omega⟩))
        (V m c main_c (ix2 ⟨16 + 8 * (R.val % 2), by omega⟩ ⟨R.val % 256 / 2, by omega⟩))
      = scaleOf code (scales m c ⟨(R.val * 80 + b.val) / 256, by omega⟩) (offset m c) := by
  have hR := R.isLt
  have hb := b.isLt
  have ho : 2 * (R.val % 256 / 2) + R.val % 2 = R.val % 256 := by omega
  have e0 : (V m c main_c_0 (ix2 ⟨R.val % 2, Nat.mod_lt _ (by decide)⟩ ⟨R.val % 256 / 2, by omega⟩) : BitVec 32)
      = BitVec.ofNat 32 ((R.val % 256 * 80 / 256 + 1) * 256 - R.val % 256 * 80) :=
    (congrFun (bound_eq m c) _).trans ((bound ⟨R.val % 2, Nat.mod_lt _ (by decide)⟩ ⟨R.val % 256 / 2, by omega⟩).trans (by rw [ho]))
  have e1 : (V m c main_c (ix2 ⟨8 * (R.val % 2), by omega⟩ ⟨R.val % 256 / 2, by omega⟩) : BitVec 32) = BitVec.ofNat 32 (R.val % 256 * 80 / 256) :=
    (congrFun (first_eq m c) _).trans ((first_low ⟨R.val % 2, Nat.mod_lt _ (by decide)⟩ ⟨R.val % 256 / 2, by omega⟩).trans (by rw [ho]))
  have e2 : (V m c main_c (ix2 ⟨16 + 8 * (R.val % 2), by omega⟩ ⟨R.val % 256 / 2, by omega⟩) : BitVec 32) = BitVec.ofNat 32 ((R.val % 256 * 80 + 79) / 256) :=
    (congrFun (first_eq m c) _).trans ((first_high ⟨R.val % 2, Nat.mod_lt _ (by decide)⟩ ⟨R.val % 256 / 2, by omega⟩).trans (by rw [ho]))
  unfold blockScaleWith scaleOf
  rw [e0, e1, e2, offset_eq m c, select_lt _ _ (by omega) (by omega)]
  have h1 : (BitVec.ofNat 32 (R.val % 256 * 80 / 256)).toNat % 128 = R.val % 256 * 80 / 256 := by
    rw [BitVec.toNat_ofNat]; omega
  have h2 : (BitVec.ofNat 32 ((R.val % 256 * 80 + 79) / 256)).toNat % 128 = (R.val % 256 * 80 + 79) / 256 := by
    rw [BitVec.toNat_ofNat]; omega
  refine congrArg (fun z : EReal => _ * z + _) ?_
  split
  · exact scale_at m c _ _ _ (lt_of_eq_of_lt h1 (by omega))
      ((show (R.val * 80 + b.val) / 256 = 80 * (R.val / 256) + R.val % 256 * 80 / 256 by omega).trans (congrArg (fun z => 80 * (R.val / 256) + z) h1.symm))
  · exact scale_at m c _ _ _ (lt_of_eq_of_lt h2 (by omega))
      ((show (R.val * 80 + b.val) / 256 = 80 * (R.val / 256) + (R.val % 256 * 80 + 79) / 256 by omega).trans (congrArg (fun z => 80 * (R.val / 256) + z) h2.symm))

/-- The kernel's result at a token and an output row. -/
theorem result_eq (t : Fin 8) (R : Fin 19072) : result m c (ix2 t R)
    = linear (fun k => m ((c : Thread nD τ).loc main_arg0) (ix3 t 0 k)) (fun k => m ((c : Thread nD τ).loc main_arg1) (ix2 R k))
        (fun b => m ((c : Thread nD τ).loc main_arg2) (ix2 R b)) (scales m c) (offset m c) R := by
  have hR := R.isLt
  let xr : Fin 5120 → EReal := fun k => m ((c : Thread nD τ).loc main_arg0) (ix3 t 0 k)
  let w : Fin 2560 → BitVec 8 := fun k => m ((c : Thread nD τ).loc main_arg1) (ix2 R k)
  let cs : Fin 80 → BitVec 8 := fun b => m ((c : Thread nD τ).loc main_arg2) (ix2 R b)
  let term (sh : BitVec 32) (o k : ℕ) : EReal :=
    xr ⟨(2 * k + o) % 5120, Nat.mod_lt _ (by decide)⟩ * weight sh w cs (scales m c) (offset m c) R ⟨k % 2560, Nat.mod_lt _ (by decide)⟩
  let xv : Fin 5120 → EReal := fun q => V m c main_v2 (ix2 t q)
  let wv : Fin 2560 → BitVec 8 := fun q => V m c main_arg1 (ix2 R q)
  let cv : Fin 80 → BitVec 8 := fun q => V m c main_arg2 (ix2 R q)
  let f (c' kk : ℕ) : EReal := xv ⟨(256 * c' + kk) % 5120, Nat.mod_lt _ (by decide)⟩ *
    (val (F := Ideal) low high (nib (if kk < 128 then 4#32 else 0#32) (wv ⟨(128 * c' + kk % 128) % 2560, Nat.mod_lt _ (by decide)⟩))
      * blockScaleWith (V m c main_v6 (ix2 0 0)) (V m c main_v5) ⟨R.val / 256, by omega⟩
          (cv ⟨(4 * c' + kk % 128 / 32) % 80, Nat.mod_lt _ (by decide)⟩) ((4 * c' + kk % 128 / 32) % 80)
          (V m c main_c_0 (ix2 ⟨R.val % 2, Nat.mod_lt _ (by decide)⟩ ⟨R.val % 256 / 2, by omega⟩))
          (V m c main_c (ix2 ⟨8 * (R.val % 2), by omega⟩ ⟨R.val % 256 / 2, by omega⟩))
          (V m c main_c (ix2 ⟨16 + 8 * (R.val % 2), by omega⟩ ⟨R.val % 256 / 2, by omega⟩)))
  have hw : wv = w := funext fun q => congrFun (V_main_arg1 m c) _
  have hcv : cv = cs := funext fun q => congrFun (V_main_arg2 m c) _
  have hf (c' kk k o : ℕ) (hc : c' < 20) (hkk : kk < 256) (hk : k = 128 * c' + kk % 128) (ho : o = kk / 128) :
      f c' kk = term (if kk < 128 then 4#32 else 0#32) o k := by
    have a1 : (256 * c' + kk) % 5120 = 256 * c' + kk := Nat.mod_eq_of_lt (by omega)
    have a2 : (256 * c' + kk) / 256 = c' := by omega
    have a3 : (256 * c' + kk) % 128 = kk % 128 := by omega
    have a4 : (256 * c' + kk) % 256 = kk := by omega
    have a5 : (2 * k + o) % 5120 = 2 * k + o := Nat.mod_eq_of_lt (by omega)
    have ex : xv ⟨(256 * c' + kk) % 5120, Nat.mod_lt _ (by decide)⟩ = xr ⟨(2 * k + o) % 5120, Nat.mod_lt _ (by decide)⟩ :=
      input_at m c t _ _ (by
        show (2 * k + o) % 5120 = (256 * c' + kk) % 5120 / 256 * 256 + 2 * ((256 * c' + kk) % 5120 % 128) + (256 * c' + kk) % 5120 % 256 / 128
        rw [a1, a2, a3, a4, a5, hk, ho]
        omega)
    have ek : (⟨(128 * c' + kk % 128) % 2560, Nat.mod_lt _ (by decide)⟩ : Fin 2560) = ⟨k % 2560, Nat.mod_lt _ (by decide)⟩ :=
      Fin.ext (by show (128 * c' + kk % 128) % 2560 = k % 2560; rw [hk])
    have eb : (4 * c' + kk % 128 / 32) % 80 = k % 2560 / 32 := by
      rw [Nat.mod_eq_of_lt (show k < 2560 by omega), Nat.mod_eq_of_lt (show 4 * c' + kk % 128 / 32 < 80 by omega), hk]
      omega
    show xv _ * (val (F := Ideal) low high (nib _ (wv _)) * blockScaleWith _ _ _ _ _ _ _ _) = xr _ * (val (F := Ideal) low high (nib _ (w _)) * scaleOf _ _ _)
    rw [ex, ek, hw, scale_eq m c R ⟨(4 * c' + kk % 128 / 32) % 80, Nat.mod_lt _ (by decide)⟩, hcv]
    simp only [eb]
  show (∑ c' ∈ Finset.range 20, ∑ kk : Fin 256, f c' kk.val) = _
  rw [sum_halves f (term 4#32 0) (term 0#32 1)
    (fun c' hc j hj => (hf c' j (128 * c' + j) 0 hc (by omega) (by omega) (by omega)).trans (by rw [if_pos hj]))
    (fun c' hc j hj => (hf c' (128 + j) (128 * c' + j) 1 hc (by omega) (by omega) (by omega)).trans (by rw [if_neg (by omega)]))]
  unfold linear
  refine congrArg₂ (fun a b : EReal => a + b) (Finset.sum_congr rfl fun k _ => ?_) (Finset.sum_congr rfl fun k _ => ?_)
  · have hk := k.isLt
    have e : (⟨k.val % 2560, Nat.mod_lt _ (by decide)⟩ : Fin 2560) = k := Fin.ext (Nat.mod_eq_of_lt hk)
    have e' : (⟨(2 * k.val + 0) % 5120, Nat.mod_lt _ (by decide)⟩ : Fin 5120) = ⟨2 * k.val, by omega⟩ := Fin.ext (Nat.mod_eq_of_lt (by omega))
    show xr _ * weight _ _ _ _ _ _ _ = _
    rw [e, e']
  · have hk := k.isLt
    have e : (⟨k.val % 2560, Nat.mod_lt _ (by decide)⟩ : Fin 2560) = k := Fin.ext (Nat.mod_eq_of_lt hk)
    have e' : (⟨(2 * k.val + 1) % 5120, Nat.mod_lt _ (by decide)⟩ : Fin 5120) = ⟨2 * k.val + 1, by omega⟩ := Fin.ext (Nat.mod_eq_of_lt (by omega))
    show xr _ * weight _ _ _ _ _ _ _ = _
    rw [e, e']

end

end Cert.Proof.KernelIdeal

end
-- ==== Proof.RefValue.lean ====
/- What the reference computes, entry by entry: its result is `linear`. -/
module

public import proofs.«01_k».proof.Proof.Linear
public import proofs.«01_k».proof.Proof.Gen.ReferenceIdeal.Run
public import proofs.«01_k».proof.Proof.Gen.ReferenceIdeal.Read

@[expose] public section

set_option maxRecDepth 16384
set_option maxHeartbeats 400000

noncomputable section

namespace Cert.Proof.ReferenceIdeal

open Cert.ReferenceIdeal Cert.ReferenceIdeal.Gen Cert.ReferenceIdeal.Read
open Idealize.ShloMosaic hiding ix0 ix1 ix2 ix3 ix4 ix5
open Idealize.ShloMosaic.ValueIdx Idealize.ShloMosaic.TcCoe Idealize.ShloMosaic.Tactic
open Cert.Proof.KernelIdeal (scaleOf weight linear val nib low high)

/-- Bit `s` of a code, as a truth value. -/
def codeBit (n s : BitVec 32) : BitVec 1 := IntOp.cmpi .ne (IntOp.andi (IntOp.shrsi .host n s) 1#32) 0#32

/-- The choice among sixteen patterns by the four bits of a code, the lowest bit first. -/
def choose {α : Type} (f : BitVec 16 → α) (n : BitVec 32) : α :=
  Scalar.select (codeBit n 3#32)
    (Scalar.select (codeBit n 2#32)
      (Scalar.select (codeBit n 1#32)
        (Scalar.select (codeBit n 0#32) (f 0x3F80#16) (f 0x3F39#16)) (Scalar.select (codeBit n 0#32) (f 0x3F10#16) (f 0x3EE2#16)))
      (Scalar.select (codeBit n 1#32)
        (Scalar.select (codeBit n 0#32) (f 0x3EAD#16) (f 0x3E7C#16)) (Scalar.select (codeBit n 0#32) (f 0x3E25#16) (f 0x3DA3#16))))
    (Scalar.select (codeBit n 2#32)
      (Scalar.select (codeBit n 1#32)
        (Scalar.select (codeBit n 0#32) (f 0x0000#16) (f 0xBDBA#16)) (Scalar.select (codeBit n 0#32) (f 0xBE3D#16) (f 0xBE92#16)))
      (Scalar.select (codeBit n 1#32)
        (Scalar.select (codeBit n 0#32) (f 0xBECA#16) (f 0xBF06#16)) (Scalar.select (codeBit n 0#32) (f 0xBF32#16) (f 0xBF80#16))))

/-- A function goes through a choice between two values. -/
theorem select_map {α β : Type} (f : α → β) (c : BitVec 1) (a b : α) : Scalar.select c (f a) (f b) = f (Scalar.select c a b) := by
  unfold Scalar.select
  split <;> rfl

/-- A function goes through the choice among sixteen values. -/
theorem choose_map {α : Type} (f : BitVec 16 → α) (n : BitVec 32) : choose f n = f (choose id n) := by
  unfold choose
  simp only [select_map f, id]

/-- The bits chosen for a nibble are those of its level. -/
theorem choose_table : ∀ k : Fin 16, choose id (BitVec.ofNat 32 k.val) = high k ++ low k := by decide +kernel

/-- The four high bits of a byte, by shift and mask. -/
theorem high_nibble : ∀ b : BitVec 8, IntOp.andi (IntOp.shrsi .host (b.setWidth 32) 4#32) 15#32 = BitVec.ofNat 32 (nib 4#32 b).val := by decide +kernel
/-- The four low bits of a byte, by mask. -/
theorem low_nibble : ∀ b : BitVec 8, IntOp.andi (b.setWidth 32) 15#32 = BitVec.ofNat 32 (nib 0#32 b).val := by decide +kernel

section

variable (x0 : (⟨S8x1x5120, .bf16⟩ : BufTy).Contents (Elt Ideal)) (x1 : (⟨S19072x2560, .i8⟩ : BufTy).Contents (Elt Ideal))
  (x2 : (⟨S19072x80, .i8⟩ : BufTy).Contents (Elt Ideal)) (x3 : (⟨S5960, .f32⟩ : BufTy).Contents (Elt Ideal)) (x4 : (⟨S_, .f32⟩ : BufTy).Contents (Elt Ideal))

/-- The table value of a high nibble. -/
theorem high_value (i : S19072x2560.Idx) : (val_main_v60 (F := Ideal) x1 i : EReal) = val (F := Ideal) low high (nib 4#32 (x1 i)) := by
  have h : val_main_v60 (F := Ideal) x1 i = choose (FloatOps.ofBits (F := Ideal) .bf16) (val_main_v14 (F := Ideal) x1 i) := by
    simp only [val_main_v60_apply, val_main_v59_apply, val_main_v58_apply, val_main_v57_apply, val_main_v56_apply, val_main_v55_apply,
      val_main_v54_apply, val_main_v53_apply, val_main_v52_apply, val_main_v51_apply, val_main_v50_apply, val_main_v49_apply, val_main_v48_apply,
      val_main_v47_apply, val_main_v46_apply, val_main_v45_apply, val_main_v44_apply, val_main_v43_apply, val_main_v42_apply, val_main_v41_apply,
      val_main_v40_apply, val_main_v39_apply, val_main_v38_apply, val_main_v37_apply, val_main_v36_apply, val_main_v35_apply, val_main_v34_apply,
      val_main_v33_apply, val_main_v32_apply, val_main_v31_apply, val_main_v30_apply, val_main_v29_apply, val_main_v28_apply, val_main_v27_apply,
      val_main_v26_apply, val_main_v25_apply, val_main_v24_apply, val_main_v23_apply, val_main_v22_apply, val_main_v21_apply, val_main_v20_apply,
      val_main_v19_apply, val_main_v18_apply, val_main_call0_v0_apply, val_main_call0_v1_apply, val_main_call1_v0_apply, val_main_call1_v1_apply,
      val_main_call2_v0_apply, val_main_call2_v1_apply, val_main_call3_v0_apply, val_main_call3_v1_apply, val_main_call4_v0_apply,
      val_main_call4_v1_apply, val_main_call5_v0_apply, val_main_call5_v1_apply, val_main_call6_v0_apply, val_main_call6_v1_apply,
      val_main_call7_v0_apply, val_main_call7_v1_apply, val_main_cst_apply, val_main_cst_5_apply, val_main_cst_6_apply, val_main_cst_7_apply,
      val_main_cst_8_apply, val_main_cst_9_apply, val_main_cst_10_apply, val_main_cst_11_apply, val_main_cst_12_apply, val_main_cst_13_apply,
      val_main_cst_14_apply, val_main_cst_15_apply, val_main_cst_16_apply, val_main_cst_17_apply, val_main_cst_18_apply, val_main_cst_19_apply,
      val_main_c_2_apply, val_main_c_3_apply, val_main_c_4_apply, val_main_c_20_apply, val_main_c_21_apply, val_main_c_22_apply, val_main_c_23_apply,
      val_main_c_24_apply, val_main_c_25_apply, val_main_c_26_apply, val_main_c_27_apply, val_main_c_28_apply]
    rfl
  have e : val_main_v14 (F := Ideal) x1 i = BitVec.ofNat 32 (nib 4#32 (x1 i)).val := by
    rw [val_main_v14_apply, val_main_v12_apply, val_main_v10_apply, val_main_v11_apply, val_main_v13_apply, val_main_c_apply, val_main_c_0_apply]
    exact high_nibble (x1 i)
  rw [h, choose_map, e, choose_table]
  rfl

/-- The table value of a low nibble. -/
theorem low_value (i : S19072x2560.Idx) : (val_main_v108 (F := Ideal) x1 i : EReal) = val (F := Ideal) low high (nib 0#32 (x1 i)) := by
  have h : val_main_v108 (F := Ideal) x1 i = choose (FloatOps.ofBits (F := Ideal) .bf16) (val_main_v17 (F := Ideal) x1 i) := by
    simp only [val_main_v108_apply, val_main_v107_apply, val_main_v106_apply, val_main_v105_apply, val_main_v104_apply, val_main_v103_apply,
      val_main_v102_apply, val_main_v101_apply, val_main_v100_apply, val_main_v99_apply, val_main_v98_apply, val_main_v97_apply, val_main_v96_apply,
      val_main_v95_apply, val_main_v94_apply, val_main_v93_apply, val_main_v92_apply, val_main_v91_apply, val_main_v90_apply, val_main_v89_apply,
      val_main_v88_apply, val_main_v87_apply, val_main_v86_apply, val_main_v85_apply, val_main_v84_apply, val_main_v83_apply, val_main_v82_apply,
      val_main_v81_apply, val_main_v80_apply, val_main_v79_apply, val_main_v78_apply, val_main_v77_apply, val_main_v76_apply, val_main_v75_apply,
      val_main_v74_apply, val_main_v73_apply, val_main_v72_apply, val_main_v71_apply, val_main_v70_apply, val_main_v69_apply, val_main_v68_apply,
      val_main_v67_apply, val_main_v66_apply, val_main_call15_v0_apply, val_main_call15_v1_apply, val_main_call16_v0_apply, val_main_call16_v1_apply,
      val_main_call17_v0_apply, val_main_call17_v1_apply, val_main_call18_v0_apply, val_main_call18_v1_apply, val_main_call19_v0_apply,
      val_main_call19_v1_apply, val_main_call20_v0_apply, val_main_call20_v1_apply, val_main_call21_v0_apply, val_main_call21_v1_apply,
      val_main_call22_v0_apply, val_main_call22_v1_apply, val_main_cst_32_apply, val_main_cst_33_apply, val_main_cst_34_apply, val_main_cst_35_apply,
      val_main_cst_36_apply, val_main_cst_37_apply, val_main_cst_38_apply, val_main_cst_39_apply, val_main_cst_40_apply, val_main_cst_41_apply,
      val_main_cst_42_apply, val_main_cst_43_apply, val_main_cst_44_apply, val_main_cst_45_apply, val_main_cst_46_apply, val_main_cst_47_apply,
      val_main_c_29_apply, val_main_c_30_apply, val_main_c_31_apply, val_main_c_48_apply, val_main_c_49_apply, val_main_c_50_apply,
      val_main_c_51_apply, val_main_c_52_apply, val_main_c_53_apply, val_main_c_54_apply, val_main_c_55_apply, val_main_c_56_apply]
    rfl
  have e : val_main_v17 (F := Ideal) x1 i = BitVec.ofNat 32 (nib 0#32 (x1 i)).val := by
    rw [val_main_v17_apply, val_main_v15_apply, val_main_v16_apply, val_main_c_1_apply]
    exact low_nibble (x1 i)
  rw [h, choose_map, e, choose_table]
  rfl

/-- The dequantised scale of a row and a block. -/
theorem scale_value (R : Fin 19072) (b : Fin 80) :
    (val_main_v9 (F := Ideal) x2 x3 x4 (ix2 R b) : EReal) = scaleOf (x2 (ix2 R b)) (x3 (ix1 ⟨(R.val * 80 + b.val) / 256, by omega⟩)) (x4 ix0) := by
  rw [val_main_v9_apply, val_main_v8_apply, val_main_v7_apply, val_main_v5_apply, val_main_v2_apply, val_main_v1_apply, val_main_v0_apply,
    val_main_v4_apply, val_main_v3_apply, val_main_v6_apply]
  have e0 : idx_main_v1 (idx_main_v8 (ix2 R b)) = ix2 R b := by
    funext a
    match a with
    | 0 => refine Fin.ext ?_; show ((R.val * 80 + b.val) / 256 * 256 + (R.val * 80 + b.val) % 256) / 80 = R.val; omega
    | 1 => refine Fin.ext ?_; show ((R.val * 80 + b.val) / 256 * 256 + (R.val * 80 + b.val) % 256) % 80 = b.val; omega
  have e1 : idx_main_v3 (idx_main_v4 (idx_main_v8 (ix2 R b))) = ix1 ⟨(R.val * 80 + b.val) / 256, by omega⟩ := by
    funext a
    match a with
    | 0 => rfl
  have e2 : idx_main_v6 (idx_main_v8 (ix2 R b)) = ix0 := funext fun a => a.elim0
  rw [e0, e1, e2]
  rfl

/-- The dequantised weights of the high nibbles. -/
theorem high_weight (R : Fin 19072) (k : Fin 2560) : (val_main_v65 (F := Ideal) x1 x2 x3 x4 (ix2 R k) : EReal)
    = weight 4#32 (fun k => x1 (ix2 R k)) (fun b => x2 (ix2 R b)) (fun n => x3 (ix1 n)) (x4 ix0) R k := by
  rw [val_main_v65_apply, val_main_v64_apply, val_main_v61_apply, val_main_v63_apply, val_main_v62_apply]
  have e0 : idx_main_v61 (idx_main_v65 (ix2 R k)) = ix2 R k := by
    funext a
    match a with
    | 0 => refine Fin.ext ?_; show (((R.val * 2560 + k.val) / 2560 * 80 + (R.val * 2560 + k.val) / 32 % 80) * 32 + (R.val * 2560 + k.val) % 32) / 2560 = R.val; omega
    | 1 => refine Fin.ext ?_; show (((R.val * 2560 + k.val) / 2560 * 80 + (R.val * 2560 + k.val) / 32 % 80) * 32 + (R.val * 2560 + k.val) % 32) % 2560 = k.val; omega
  have e1 : idx_main_v62 (idx_main_v63 (idx_main_v65 (ix2 R k))) = ix2 R ⟨k.val / 32, by omega⟩ := by
    funext a
    match a with
    | 0 => refine Fin.ext ?_; show (R.val * 2560 + k.val) / 2560 = R.val; omega
    | 1 => refine Fin.ext ?_; show (R.val * 2560 + k.val) / 32 % 80 = k.val / 32; omega
  rw [e0, e1, scale_value, high_value]
  rfl

/-- The dequantised weights of the low nibbles. -/
theorem low_weight (R : Fin 19072) (k : Fin 2560) : (val_main_v113 (F := Ideal) x1 x2 x3 x4 (ix2 R k) : EReal)
    = weight 0#32 (fun k => x1 (ix2 R k)) (fun b => x2 (ix2 R b)) (fun n => x3 (ix1 n)) (x4 ix0) R k := by
  rw [val_main_v113_apply, val_main_v112_apply, val_main_v109_apply, val_main_v111_apply, val_main_v110_apply]
  have e0 : idx_main_v109 (idx_main_v113 (ix2 R k)) = ix2 R k := by
    funext a
    match a with
    | 0 => refine Fin.ext ?_; show (((R.val * 2560 + k.val) / 2560 * 80 + (R.val * 2560 + k.val) / 32 % 80) * 32 + (R.val * 2560 + k.val) % 32) / 2560 = R.val; omega
    | 1 => refine Fin.ext ?_; show (((R.val * 2560 + k.val) / 2560 * 80 + (R.val * 2560 + k.val) / 32 % 80) * 32 + (R.val * 2560 + k.val) % 32) % 2560 = k.val; omega
  have e1 : idx_main_v110 (idx_main_v111 (idx_main_v113 (ix2 R k))) = ix2 R ⟨k.val / 32, by omega⟩ := by
    funext a
    match a with
    | 0 => refine Fin.ext ?_; show (R.val * 2560 + k.val) / 2560 = R.val; omega
    | 1 => refine Fin.ext ?_; show (R.val * 2560 + k.val) / 32 % 80 = k.val / 32; omega
  rw [e0, e1, scale_value, low_value]
  rfl

/-- The even inputs. -/
theorem even_input (t : Fin 8) (k : Fin 2560) : val_main_v114 (F := Ideal) x0 (ix3 t 0 k) = x0 (ix3 t 0 ⟨2 * k.val, by omega⟩) := by
  unfold val_main_v114
  rw [Host.slice_apply]
  refine congrArg x0 (funext fun a => Fin.ext ?_)
  match a with
  | 0 => show 0 + 1 * t.val = t.val; omega
  | 1 => rfl
  | 2 => show 0 + 2 * k.val = 2 * k.val; omega

/-- The odd inputs. -/
theorem odd_input (t : Fin 8) (k : Fin 2560) : val_main_v116 (F := Ideal) x0 (ix3 t 0 k) = x0 (ix3 t 0 ⟨2 * k.val + 1, by omega⟩) := by
  unfold val_main_v116
  rw [Host.slice_apply]
  refine congrArg x0 (funext fun a => Fin.ext ?_)
  match a with
  | 0 => show 0 + 1 * t.val = t.val; omega
  | 1 => rfl
  | 2 => show 1 + 2 * k.val = 2 * k.val + 1; omega

/-- The reference's result at a token and an output row. -/
theorem value (t : Fin 8) (R : Fin 19072) : (val_main_v120 (F := Ideal) x0 x1 x2 x3 x4 (ix2 t R) : EReal)
    = linear (fun k => x0 (ix3 t 0 k)) (fun k => x1 (ix2 R k)) (fun b => x2 (ix2 R b)) (fun n => x3 (ix1 n)) (x4 ix0) R := by
  have e : idx_main_v120 (ix2 t R) = ix3 t 0 R := by
    funext a
    match a with
    | 0 => refine Fin.ext ?_; show (t.val * 19072 + R.val) / 19072 = t.val; omega
    | 1 => rfl
    | 2 => refine Fin.ext ?_; show (t.val * 19072 + R.val) % 19072 = R.val; omega
  rw [val_main_v120_apply, val_main_v119_apply, val_main_v118_apply, e, val_main_v115_apply, val_main_v117_apply]
  unfold linear
  have l1 : ∀ k, lidx_main_v115 (ix3 t 0 R) k = ix3 t 0 k := fun k => funext fun a => by
    match a with
    | 0 => rfl
    | 1 => rfl
    | 2 => rfl
  have r1 : ∀ k, ridx_main_v115 (ix3 t 0 R) k = ix2 R k := fun k => funext fun a => by
    match a with
    | 0 => rfl
    | 1 => rfl
  have l2 : ∀ k, lidx_main_v117 (ix3 t 0 R) k = ix3 t 0 k := fun k => funext fun a => by
    match a with
    | 0 => rfl
    | 1 => rfl
    | 2 => rfl
  have r2 : ∀ k, ridx_main_v117 (ix3 t 0 R) k = ix2 R k := fun k => funext fun a => by
    match a with
    | 0 => rfl
    | 1 => rfl
  refine congrArg₂ (fun a b : EReal => a + b) (Finset.sum_congr rfl fun k _ => ?_) (Finset.sum_congr rfl fun k _ => ?_)
  · rw [l1, r1, even_input, high_weight]
  · rw [l2, r2, odd_input, low_weight]

end

end Cert.Proof.ReferenceIdeal

end
-- ==== Proof.lean ====
/- The certificate: the three frames, and the statements the idealization of the kernel rests on. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.IdealFrame
public import proofs.«01_k».proof.Proof.Equation
public import proofs.«01_k».proof.Proof.RefValue
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments as they were, and ends with every semaphore at zero. -/
theorem frame_kernel : Cert.quiescent_Kernel := fun m ρ _ => Cert.Proof.Kernel.frame_main m ρ

/-- So does the idealized kernel. -/
theorem frame_kernelIdeal : Cert.quiescent_KernelIdeal := fun m ρ _ => Cert.Proof.KernelIdeal.frame_main m ρ

/-- So does the reference; it has no semaphore at all. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- What the packed scale scratch read as pairs of rows rests on. -/
theorem preserves : Cert.preserves_Kernel_KernelIdeal :=
  open Cert.KernelIdeal IdealRules.bf16_pair in
  ⟨bufferStatement S2x2x40x2x128 S2x2x40x1x128, packStatement S40x128, statement S1x1x40x2x128 S1x1x40x1x128,
    statement S1x1x1x2x128 S1x1x1x1x128, statement S16x128 S8x128⟩

/-- The idealized kernel's run: its result array is `result`, its arguments as they were. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7) = KernelIdeal.result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  open Cert.KernelIdeal Cert.KernelIdeal.Gen Cert.Proof.KernelIdeal in
  (θ_run defs _ _).mono (fun _ ⟨h, _⟩ c => ⟨((h c).1 8).trans (array_eq m c),
      ((h c).2 main_arg0 (Pipeline.mem_restRefs_of main_arg0 (by decide) (by decide))).trans (V_main_arg0 m c),
      (Pipeline.FramePost.in_eq h c 2 rfl).trans ((A_eq m (left m) c 2).trans (V_main_arg1 m c)),
      (Pipeline.FramePost.in_eq h c 3 rfl).trans ((A_eq m (left m) c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_value m ρ)

/-- At exact arithmetic the kernel and the reference, from equal arguments, end with the same result. -/
theorem algebraic : Cert.algebraic_KernelIdeal_ReferenceIdeal := fun m g m' g' _ hagree => by
  refine ⟨fun c => KernelIdeal.result m c, kernel_run m g, ?_⟩
  refine (θ_run Cert.ReferenceIdeal.defs _ _).mono (fun r h c => ⟨(h c).1.trans ?_, (h c).2⟩) (Cert.ReferenceIdeal.Value.run m' g')
  rw [Cert.ReferenceIdeal.Read.val_main_v120_eq]
  repeat rw [StableHlo.launchContents_devRef]
  rw [(hagree c).1, (hagree c).2.1, (hagree c).2.2.1, (hagree c).2.2.2.1, (hagree c).2.2.2.2]
  funext i
  rw [ValueIdx.eq_ix2 i]
  exact (ReferenceIdeal.value _ _ _ _ _ _ _).trans (KernelIdeal.result_eq m c _ _).symm

/-- The five claims together. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
